-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 256]⟩ ⟨2, ![4096, 4096]⟩ 1 16 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![256, 8192]⟩ ⟨2, ![4096, 8192]⟩ 0 16 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v12)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![256, 8192]⟩ ⟨2, ![4096, 8192]⟩ 0 16 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v12) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x256 : Shape := ⟨2, ![4096, 256]⟩
abbrev S256x8192 : Shape := ⟨2, ![256, 8192]⟩
abbrev S2x256x8192 : Shape := ⟨3, ![2, 256, 8192]⟩
abbrev S16x8x128 : Shape := ⟨3, ![16, 8, 128]⟩
abbrev S2 : Shape := ⟨1, ![2]⟩
abbrev S15 : Shape := ⟨1, ![15]⟩
abbrev S16 : Shape := ⟨1, ![16]⟩
abbrev S_ : Shape := ⟨0, ![]⟩
abbrev S256x256 : Shape := ⟨2, ![256, 256]⟩
abbrev S1x256x8192 : Shape := ⟨3, ![1, 256, 8192]⟩
abbrev S1 : Shape := ⟨1, ![1]⟩
abbrev S1x1x1 : Shape := ⟨3, ![1, 1, 1]⟩
abbrev S1x8x128 : Shape := ⟨3, ![1, 8, 128]⟩
abbrev S8x128 : Shape := ⟨2, ![8, 128]⟩
abbrev S1x16x8x128 : Shape := ⟨4, ![1, 16, 8, 128]⟩
abbrev S1x1x1x1 : Shape := ⟨4, ![1, 1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x256, .f32⟩
  | .hbm, ⟨1, _⟩ => ⟨S256x8192, .f32⟩
  | .hbm, ⟨2, _⟩ => ⟨S256x8192, .f32⟩
  | .local _ .vmem, ⟨0, _⟩ => ⟨S4096x256, .f32⟩
  | .local _ .vmem, ⟨1, _⟩ => ⟨S256x8192, .f32⟩
  | .local _ .vmem, ⟨2, _⟩ => ⟨S256x8192, .f32⟩
  | .local _ .vmem, ⟨3, _⟩ => ⟨S2x256x8192, .f32⟩
  | .local _ .vmem, ⟨4, _⟩ => ⟨S2x256x8192, .f32⟩
  | .local _ .vmem, ⟨5, _⟩ => ⟨S16x8x128, .f32⟩
  | _, _ => ⟨S4096x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 3 → Bool
  | ⟨0, _⟩ => true
  | ⟨1, _⟩ => true
  | ⟨2, _⟩ => false
  | _ => false

abbrev dmaSemScoped : Fin 38 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | _ => false

abbrev sig : RefSig :=
  (ofTc nBuf bufTy 3 38 bufScoped semScoped dmaSemScoped tileCredit tileCredit_eq_zero tileCredit_pos).withBarriers [(0, 2)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_scratch0 : Ref sig .tc := ⟨.vmem, 3, rfl⟩
abbrev cc0_scratch1 : Ref sig .tc := ⟨.vmem, 4, rfl⟩
abbrev cc0_scratch2 : Ref sig .tc := ⟨.vmem, 5, rfl⟩
abbrev cc0_sem0_0 : DmaSem sig := 0
abbrev cc0_sem1_0 : DmaSem sig := 1
abbrev cc0_sem2_0 : DmaSem sig := 2
abbrev barrier0 : Sem sig := 2

abbrev nD : Nat := 16
abbrev τ : Topo := Topo.v7x

variable {F : FTy → Type} [FloatOps F]

abbrev grid0 : Pipeline.Grid := .none

def k0_dev1 (d0 : Dev nD) : Nat :=
  let c0_i32_16 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_15 : BitVec 32 := 1#32
  let v27 : BitVec 32 := Scalar.muli v14 c1_i32_15
  let v28 : BitVec 32 := Scalar.addi c0_i32_16 v27
  v28.toNat
def k0_dev2 (d0 : Dev nD) : Nat :=
  let c0_i32_19 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_18 : BitVec 32 := 1#32
  let v29 : BitVec 32 := Scalar.muli v25 c1_i32_18
  let v30 : BitVec 32 := Scalar.addi c0_i32_19 v29
  v30.toNat
def k0_off1 (d0 : Dev nD) (c0_i32_21 : BitVec 32) : Fin 2 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c32_i32 : BitVec 32 := 32#32
  let v31 : BitVec 32 := Scalar.addi v2 c32_i32
  let c1_i32_20 : BitVec 32 := 1#32
  let v32 : BitVec 32 := Scalar.subi v31 c1_i32_20
  let v33 : BitVec 32 := Scalar.subi v32 c0_i32_21
  let c16_i32_22 : BitVec 32 := 16#32
  let c0_i32_23 : BitVec 32 := 0#32
  let v34 : BitVec 1 := Scalar.cmpi .eq c16_i32_22 c0_i32_23
  let c1_i32_24 : BitVec 32 := 1#32
  let v35 : BitVec 32 := Scalar.select v34 c1_i32_24 c16_i32_22
  let v36 : BitVec 32 := Scalar.remsi v33 v35
  let c0_i32_26 : BitVec 32 := 0#32
  let v38 : BitVec 1 := Scalar.cmpi .slt v36 c0_i32_26
  let c0_i32_27 : BitVec 32 := 0#32
  let v39 : BitVec 1 := Scalar.cmpi .slt v35 c0_i32_27
  let v40 : BitVec 1 := Scalar.xori v38 v39
  let c0_i32_25 : BitVec 32 := 0#32
  let v37 : BitVec 1 := Scalar.cmpi .ne v36 c0_i32_25
  let v41 : BitVec 1 := Scalar.andi v40 v37
  let v42 : BitVec 32 := Scalar.addi v36 v35
  let v43 : BitVec 32 := Scalar.select v41 v42 v36
  let c256_i32 : BitVec 32 := 256#32
  let v44 : BitVec 32 := Scalar.muli v43 c256_i32
  let v45 : Index := Scalar.indexCast v44
  let c0 : Index := 0#32
  ![v45.toNat, 0]
def k0_dev3 (d0 : Dev nD) : Nat :=
  let c0_i32_38 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_37 : BitVec 32 := 1#32
  let v54 : BitVec 32 := Scalar.muli v25 c1_i32_37
  let v55 : BitVec 32 := Scalar.addi c0_i32_38 v54
  v55.toNat
def k0_dev4 (d0 : Dev nD) : Nat :=
  let c0_i32_75 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_74 : BitVec 32 := 1#32
  let v100 : BitVec 32 := Scalar.muli v14 c1_i32_74
  let v101 : BitVec 32 := Scalar.addi c0_i32_75 v100
  v101.toNat
def k0_dev5 (d0 : Dev nD) : Nat :=
  let c0_i32_81 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_80 : BitVec 32 := 1#32
  let v102 : BitVec 32 := Scalar.muli v25 c1_i32_80
  let v103 : BitVec 32 := Scalar.addi c0_i32_81 v102
  v103.toNat
def k0_dev6 (d0 : Dev nD) : Nat :=
  let c0_i32_128 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_127 : BitVec 32 := 1#32
  let v154 : BitVec 32 := Scalar.muli v14 c1_i32_127
  let v155 : BitVec 32 := Scalar.addi c0_i32_128 v154
  v155.toNat
def k0_dev7 (d0 : Dev nD) : Nat :=
  let c0_i32_137 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_136 : BitVec 32 := 1#32
  let v158 : BitVec 32 := Scalar.muli v25 c1_i32_136
  let v159 : BitVec 32 := Scalar.addi c0_i32_137 v158
  v159.toNat
def k0_dev8 (d0 : Dev nD) : Nat :=
  let c0_i32_183 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_182 : BitVec 32 := 1#32
  let v210 : BitVec 32 := Scalar.muli v14 c1_i32_182
  let v211 : BitVec 32 := Scalar.addi c0_i32_183 v210
  v211.toNat
def k0_dev9 (d0 : Dev nD) : Nat :=
  let c0_i32_192 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_191 : BitVec 32 := 1#32
  let v214 : BitVec 32 := Scalar.muli v25 c1_i32_191
  let v215 : BitVec 32 := Scalar.addi c0_i32_192 v214
  v215.toNat
def k0_dev10 (d0 : Dev nD) : Nat :=
  let c0_i32_238 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_237 : BitVec 32 := 1#32
  let v266 : BitVec 32 := Scalar.muli v14 c1_i32_237
  let v267 : BitVec 32 := Scalar.addi c0_i32_238 v266
  v267.toNat
def k0_dev11 (d0 : Dev nD) : Nat :=
  let c0_i32_247 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_246 : BitVec 32 := 1#32
  let v270 : BitVec 32 := Scalar.muli v25 c1_i32_246
  let v271 : BitVec 32 := Scalar.addi c0_i32_247 v270
  v271.toNat
def k0_dev12 (d0 : Dev nD) : Nat :=
  let c0_i32_293 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_292 : BitVec 32 := 1#32
  let v322 : BitVec 32 := Scalar.muli v14 c1_i32_292
  let v323 : BitVec 32 := Scalar.addi c0_i32_293 v322
  v323.toNat
def k0_dev13 (d0 : Dev nD) : Nat :=
  let c0_i32_302 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_301 : BitVec 32 := 1#32
  let v326 : BitVec 32 := Scalar.muli v25 c1_i32_301
  let v327 : BitVec 32 := Scalar.addi c0_i32_302 v326
  v327.toNat
def k0_dev14 (d0 : Dev nD) : Nat :=
  let c0_i32_348 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_347 : BitVec 32 := 1#32
  let v378 : BitVec 32 := Scalar.muli v14 c1_i32_347
  let v379 : BitVec 32 := Scalar.addi c0_i32_348 v378
  v379.toNat
def k0_dev15 (d0 : Dev nD) : Nat :=
  let c0_i32_357 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_356 : BitVec 32 := 1#32
  let v382 : BitVec 32 := Scalar.muli v25 c1_i32_356
  let v383 : BitVec 32 := Scalar.addi c0_i32_357 v382
  v383.toNat
def k0_dev16 (d0 : Dev nD) : Nat :=
  let c0_i32_403 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_402 : BitVec 32 := 1#32
  let v434 : BitVec 32 := Scalar.muli v14 c1_i32_402
  let v435 : BitVec 32 := Scalar.addi c0_i32_403 v434
  v435.toNat
def k0_dev17 (d0 : Dev nD) : Nat :=
  let c0_i32_412 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_411 : BitVec 32 := 1#32
  let v438 : BitVec 32 := Scalar.muli v25 c1_i32_411
  let v439 : BitVec 32 := Scalar.addi c0_i32_412 v438
  v439.toNat
def k0_dev18 (d0 : Dev nD) : Nat :=
  let c0_i32_458 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_457 : BitVec 32 := 1#32
  let v490 : BitVec 32 := Scalar.muli v14 c1_i32_457
  let v491 : BitVec 32 := Scalar.addi c0_i32_458 v490
  v491.toNat
def k0_dev19 (d0 : Dev nD) : Nat :=
  let c0_i32_467 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_466 : BitVec 32 := 1#32
  let v494 : BitVec 32 := Scalar.muli v25 c1_i32_466
  let v495 : BitVec 32 := Scalar.addi c0_i32_467 v494
  v495.toNat
def k0_dev20 (d0 : Dev nD) : Nat :=
  let c0_i32_513 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_512 : BitVec 32 := 1#32
  let v546 : BitVec 32 := Scalar.muli v14 c1_i32_512
  let v547 : BitVec 32 := Scalar.addi c0_i32_513 v546
  v547.toNat
def k0_dev21 (d0 : Dev nD) : Nat :=
  let c0_i32_522 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_521 : BitVec 32 := 1#32
  let v550 : BitVec 32 := Scalar.muli v25 c1_i32_521
  let v551 : BitVec 32 := Scalar.addi c0_i32_522 v550
  v551.toNat
def k0_dev22 (d0 : Dev nD) : Nat :=
  let c0_i32_568 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_567 : BitVec 32 := 1#32
  let v602 : BitVec 32 := Scalar.muli v14 c1_i32_567
  let v603 : BitVec 32 := Scalar.addi c0_i32_568 v602
  v603.toNat
def k0_dev23 (d0 : Dev nD) : Nat :=
  let c0_i32_577 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_576 : BitVec 32 := 1#32
  let v606 : BitVec 32 := Scalar.muli v25 c1_i32_576
  let v607 : BitVec 32 := Scalar.addi c0_i32_577 v606
  v607.toNat
def k0_dev24 (d0 : Dev nD) : Nat :=
  let c0_i32_623 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_622 : BitVec 32 := 1#32
  let v658 : BitVec 32 := Scalar.muli v14 c1_i32_622
  let v659 : BitVec 32 := Scalar.addi c0_i32_623 v658
  v659.toNat
def k0_dev25 (d0 : Dev nD) : Nat :=
  let c0_i32_632 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_631 : BitVec 32 := 1#32
  let v662 : BitVec 32 := Scalar.muli v25 c1_i32_631
  let v663 : BitVec 32 := Scalar.addi c0_i32_632 v662
  v663.toNat
def k0_dev26 (d0 : Dev nD) : Nat :=
  let c0_i32_678 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_677 : BitVec 32 := 1#32
  let v714 : BitVec 32 := Scalar.muli v14 c1_i32_677
  let v715 : BitVec 32 := Scalar.addi c0_i32_678 v714
  v715.toNat
def k0_dev27 (d0 : Dev nD) : Nat :=
  let c0_i32_687 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_686 : BitVec 32 := 1#32
  let v718 : BitVec 32 := Scalar.muli v25 c1_i32_686
  let v719 : BitVec 32 := Scalar.addi c0_i32_687 v718
  v719.toNat
def k0_dev28 (d0 : Dev nD) : Nat :=
  let c0_i32_733 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c16_i32_0 : BitVec 32 := 16#32
  let v3 : BitVec 32 := Scalar.addi v2 c16_i32_0
  let c1_i32_1 : BitVec 32 := 1#32
  let v4 : BitVec 32 := Scalar.subi v3 c1_i32_1
  let c16_i32_2 : BitVec 32 := 16#32
  let c0_i32 : BitVec 32 := 0#32
  let v5 : BitVec 1 := Scalar.cmpi .eq c16_i32_2 c0_i32
  let c1_i32_3 : BitVec 32 := 1#32
  let v6 : BitVec 32 := Scalar.select v5 c1_i32_3 c16_i32_2
  let v7 : BitVec 32 := Scalar.remsi v4 v6
  let c0_i32_5 : BitVec 32 := 0#32
  let v9 : BitVec 1 := Scalar.cmpi .slt v7 c0_i32_5
  let c0_i32_6 : BitVec 32 := 0#32
  let v10 : BitVec 1 := Scalar.cmpi .slt v6 c0_i32_6
  let v11 : BitVec 1 := Scalar.xori v9 v10
  let c0_i32_4 : BitVec 32 := 0#32
  let v8 : BitVec 1 := Scalar.cmpi .ne v7 c0_i32_4
  let v12 : BitVec 1 := Scalar.andi v11 v8
  let v13 : BitVec 32 := Scalar.addi v7 v6
  let v14 : BitVec 32 := Scalar.select v12 v13 v7
  let c1_i32_732 : BitVec 32 := 1#32
  let v770 : BitVec 32 := Scalar.muli v14 c1_i32_732
  let v771 : BitVec 32 := Scalar.addi c0_i32_733 v770
  v771.toNat
def k0_dev29 (d0 : Dev nD) : Nat :=
  let c0_i32_742 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_741 : BitVec 32 := 1#32
  let v774 : BitVec 32 := Scalar.muli v25 c1_i32_741
  let v775 : BitVec 32 := Scalar.addi c0_i32_742 v774
  v775.toNat
def k0_dev30 (d0 : Dev nD) : Nat :=
  let c0_i32_793 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_7 : BitVec 32 := 1#32
  let v15 : BitVec 32 := Scalar.addi v2 c1_i32_7
  let c16_i32_8 : BitVec 32 := 16#32
  let c0_i32_9 : BitVec 32 := 0#32
  let v16 : BitVec 1 := Scalar.cmpi .eq c16_i32_8 c0_i32_9
  let c1_i32_10 : BitVec 32 := 1#32
  let v17 : BitVec 32 := Scalar.select v16 c1_i32_10 c16_i32_8
  let v18 : BitVec 32 := Scalar.remsi v15 v17
  let c0_i32_12 : BitVec 32 := 0#32
  let v20 : BitVec 1 := Scalar.cmpi .slt v18 c0_i32_12
  let c0_i32_13 : BitVec 32 := 0#32
  let v21 : BitVec 1 := Scalar.cmpi .slt v17 c0_i32_13
  let v22 : BitVec 1 := Scalar.xori v20 v21
  let c0_i32_11 : BitVec 32 := 0#32
  let v19 : BitVec 1 := Scalar.cmpi .ne v18 c0_i32_11
  let v23 : BitVec 1 := Scalar.andi v22 v19
  let v24 : BitVec 32 := Scalar.addi v18 v17
  let v25 : BitVec 32 := Scalar.select v23 v24 v18
  let c1_i32_792 : BitVec 32 := 1#32
  let v826 : BitVec 32 := Scalar.muli v25 c1_i32_792
  let v827 : BitVec 32 := Scalar.addi c0_i32_793 v826
  v827.toNat
def k0_off2 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let v887 : Index := Scalar.indexCast v2
  let c0_846 : Index := 0#32
  let c0_847 : Index := 0#32
  ![v887.toNat, 0, 0]
def k0_off3 (d0 : Dev nD) : Fin 1 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  ![v2.toNat]
def k0_off4 (d0 : Dev nD) : Fin 3 → Nat :=
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c0_i32_858 : BitVec 32 := 0#32
  let c0_i32_859 : BitVec 32 := 0#32
  ![v2.toNat, 0, 0]
def k0_dev31 (d0 : Dev nD) : Nat :=
  let c0_i32_857 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c1_i32_848 : BitVec 32 := 1#32
  let v891 : BitVec 32 := Scalar.addi v2 c1_i32_848
  let c16_i32_849 : BitVec 32 := 16#32
  let c0_i32_850 : BitVec 32 := 0#32
  let v892 : BitVec 1 := Scalar.cmpi .eq c16_i32_849 c0_i32_850
  let c1_i32_851 : BitVec 32 := 1#32
  let v893 : BitVec 32 := Scalar.select v892 c1_i32_851 c16_i32_849
  let v894 : BitVec 32 := Scalar.remsi v891 v893
  let c0_i32_853 : BitVec 32 := 0#32
  let v896 : BitVec 1 := Scalar.cmpi .slt v894 c0_i32_853
  let c0_i32_854 : BitVec 32 := 0#32
  let v897 : BitVec 1 := Scalar.cmpi .slt v893 c0_i32_854
  let v898 : BitVec 1 := Scalar.xori v896 v897
  let c0_i32_852 : BitVec 32 := 0#32
  let v895 : BitVec 1 := Scalar.cmpi .ne v894 c0_i32_852
  let v899 : BitVec 1 := Scalar.andi v898 v895
  let v900 : BitVec 32 := Scalar.addi v894 v893
  let v901 : BitVec 32 := Scalar.select v899 v900 v894
  let c1_i32_856 : BitVec 32 := 1#32
  let v902 : BitVec 32 := Scalar.muli v901 c1_i32_856
  let v903 : BitVec 32 := Scalar.addi c0_i32_857 v902
  v903.toNat
def k0_dev32 (d0 : Dev nD) : Nat :=
  let c0_i32_871 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c2_i32_862 : BitVec 32 := 2#32
  let v912 : BitVec 32 := Scalar.addi v2 c2_i32_862
  let c16_i32_863 : BitVec 32 := 16#32
  let c0_i32_864 : BitVec 32 := 0#32
  let v913 : BitVec 1 := Scalar.cmpi .eq c16_i32_863 c0_i32_864
  let c1_i32_865 : BitVec 32 := 1#32
  let v914 : BitVec 32 := Scalar.select v913 c1_i32_865 c16_i32_863
  let v915 : BitVec 32 := Scalar.remsi v912 v914
  let c0_i32_867 : BitVec 32 := 0#32
  let v917 : BitVec 1 := Scalar.cmpi .slt v915 c0_i32_867
  let c0_i32_868 : BitVec 32 := 0#32
  let v918 : BitVec 1 := Scalar.cmpi .slt v914 c0_i32_868
  let v919 : BitVec 1 := Scalar.xori v917 v918
  let c0_i32_866 : BitVec 32 := 0#32
  let v916 : BitVec 1 := Scalar.cmpi .ne v915 c0_i32_866
  let v920 : BitVec 1 := Scalar.andi v919 v916
  let v921 : BitVec 32 := Scalar.addi v915 v914
  let v922 : BitVec 32 := Scalar.select v920 v921 v915
  let c1_i32_870 : BitVec 32 := 1#32
  let v923 : BitVec 32 := Scalar.muli v922 c1_i32_870
  let v924 : BitVec 32 := Scalar.addi c0_i32_871 v923
  v924.toNat
def k0_dev33 (d0 : Dev nD) : Nat :=
  let c0_i32_885 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c3_i32_876 : BitVec 32 := 3#32
  let v933 : BitVec 32 := Scalar.addi v2 c3_i32_876
  let c16_i32_877 : BitVec 32 := 16#32
  let c0_i32_878 : BitVec 32 := 0#32
  let v934 : BitVec 1 := Scalar.cmpi .eq c16_i32_877 c0_i32_878
  let c1_i32_879 : BitVec 32 := 1#32
  let v935 : BitVec 32 := Scalar.select v934 c1_i32_879 c16_i32_877
  let v936 : BitVec 32 := Scalar.remsi v933 v935
  let c0_i32_881 : BitVec 32 := 0#32
  let v938 : BitVec 1 := Scalar.cmpi .slt v936 c0_i32_881
  let c0_i32_882 : BitVec 32 := 0#32
  let v939 : BitVec 1 := Scalar.cmpi .slt v935 c0_i32_882
  let v940 : BitVec 1 := Scalar.xori v938 v939
  let c0_i32_880 : BitVec 32 := 0#32
  let v937 : BitVec 1 := Scalar.cmpi .ne v936 c0_i32_880
  let v941 : BitVec 1 := Scalar.andi v940 v937
  let v942 : BitVec 32 := Scalar.addi v936 v935
  let v943 : BitVec 32 := Scalar.select v941 v942 v936
  let c1_i32_884 : BitVec 32 := 1#32
  let v944 : BitVec 32 := Scalar.muli v943 c1_i32_884
  let v945 : BitVec 32 := Scalar.addi c0_i32_885 v944
  v945.toNat
def k0_dev34 (d0 : Dev nD) : Nat :=
  let c0_i32_899 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c4_i32_890 : BitVec 32 := 4#32
  let v954 : BitVec 32 := Scalar.addi v2 c4_i32_890
  let c16_i32_891 : BitVec 32 := 16#32
  let c0_i32_892 : BitVec 32 := 0#32
  let v955 : BitVec 1 := Scalar.cmpi .eq c16_i32_891 c0_i32_892
  let c1_i32_893 : BitVec 32 := 1#32
  let v956 : BitVec 32 := Scalar.select v955 c1_i32_893 c16_i32_891
  let v957 : BitVec 32 := Scalar.remsi v954 v956
  let c0_i32_895 : BitVec 32 := 0#32
  let v959 : BitVec 1 := Scalar.cmpi .slt v957 c0_i32_895
  let c0_i32_896 : BitVec 32 := 0#32
  let v960 : BitVec 1 := Scalar.cmpi .slt v956 c0_i32_896
  let v961 : BitVec 1 := Scalar.xori v959 v960
  let c0_i32_894 : BitVec 32 := 0#32
  let v958 : BitVec 1 := Scalar.cmpi .ne v957 c0_i32_894
  let v962 : BitVec 1 := Scalar.andi v961 v958
  let v963 : BitVec 32 := Scalar.addi v957 v956
  let v964 : BitVec 32 := Scalar.select v962 v963 v957
  let c1_i32_898 : BitVec 32 := 1#32
  let v965 : BitVec 32 := Scalar.muli v964 c1_i32_898
  let v966 : BitVec 32 := Scalar.addi c0_i32_899 v965
  v966.toNat
def k0_dev35 (d0 : Dev nD) : Nat :=
  let c0_i32_913 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c5_i32_904 : BitVec 32 := 5#32
  let v975 : BitVec 32 := Scalar.addi v2 c5_i32_904
  let c16_i32_905 : BitVec 32 := 16#32
  let c0_i32_906 : BitVec 32 := 0#32
  let v976 : BitVec 1 := Scalar.cmpi .eq c16_i32_905 c0_i32_906
  let c1_i32_907 : BitVec 32 := 1#32
  let v977 : BitVec 32 := Scalar.select v976 c1_i32_907 c16_i32_905
  let v978 : BitVec 32 := Scalar.remsi v975 v977
  let c0_i32_909 : BitVec 32 := 0#32
  let v980 : BitVec 1 := Scalar.cmpi .slt v978 c0_i32_909
  let c0_i32_910 : BitVec 32 := 0#32
  let v981 : BitVec 1 := Scalar.cmpi .slt v977 c0_i32_910
  let v982 : BitVec 1 := Scalar.xori v980 v981
  let c0_i32_908 : BitVec 32 := 0#32
  let v979 : BitVec 1 := Scalar.cmpi .ne v978 c0_i32_908
  let v983 : BitVec 1 := Scalar.andi v982 v979
  let v984 : BitVec 32 := Scalar.addi v978 v977
  let v985 : BitVec 32 := Scalar.select v983 v984 v978
  let c1_i32_912 : BitVec 32 := 1#32
  let v986 : BitVec 32 := Scalar.muli v985 c1_i32_912
  let v987 : BitVec 32 := Scalar.addi c0_i32_913 v986
  v987.toNat
def k0_dev36 (d0 : Dev nD) : Nat :=
  let c0_i32_927 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c6_i32_918 : BitVec 32 := 6#32
  let v996 : BitVec 32 := Scalar.addi v2 c6_i32_918
  let c16_i32_919 : BitVec 32 := 16#32
  let c0_i32_920 : BitVec 32 := 0#32
  let v997 : BitVec 1 := Scalar.cmpi .eq c16_i32_919 c0_i32_920
  let c1_i32_921 : BitVec 32 := 1#32
  let v998 : BitVec 32 := Scalar.select v997 c1_i32_921 c16_i32_919
  let v999 : BitVec 32 := Scalar.remsi v996 v998
  let c0_i32_923 : BitVec 32 := 0#32
  let v1001 : BitVec 1 := Scalar.cmpi .slt v999 c0_i32_923
  let c0_i32_924 : BitVec 32 := 0#32
  let v1002 : BitVec 1 := Scalar.cmpi .slt v998 c0_i32_924
  let v1003 : BitVec 1 := Scalar.xori v1001 v1002
  let c0_i32_922 : BitVec 32 := 0#32
  let v1000 : BitVec 1 := Scalar.cmpi .ne v999 c0_i32_922
  let v1004 : BitVec 1 := Scalar.andi v1003 v1000
  let v1005 : BitVec 32 := Scalar.addi v999 v998
  let v1006 : BitVec 32 := Scalar.select v1004 v1005 v999
  let c1_i32_926 : BitVec 32 := 1#32
  let v1007 : BitVec 32 := Scalar.muli v1006 c1_i32_926
  let v1008 : BitVec 32 := Scalar.addi c0_i32_927 v1007
  v1008.toNat
def k0_dev37 (d0 : Dev nD) : Nat :=
  let c0_i32_941 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c7_i32_932 : BitVec 32 := 7#32
  let v1017 : BitVec 32 := Scalar.addi v2 c7_i32_932
  let c16_i32_933 : BitVec 32 := 16#32
  let c0_i32_934 : BitVec 32 := 0#32
  let v1018 : BitVec 1 := Scalar.cmpi .eq c16_i32_933 c0_i32_934
  let c1_i32_935 : BitVec 32 := 1#32
  let v1019 : BitVec 32 := Scalar.select v1018 c1_i32_935 c16_i32_933
  let v1020 : BitVec 32 := Scalar.remsi v1017 v1019
  let c0_i32_937 : BitVec 32 := 0#32
  let v1022 : BitVec 1 := Scalar.cmpi .slt v1020 c0_i32_937
  let c0_i32_938 : BitVec 32 := 0#32
  let v1023 : BitVec 1 := Scalar.cmpi .slt v1019 c0_i32_938
  let v1024 : BitVec 1 := Scalar.xori v1022 v1023
  let c0_i32_936 : BitVec 32 := 0#32
  let v1021 : BitVec 1 := Scalar.cmpi .ne v1020 c0_i32_936
  let v1025 : BitVec 1 := Scalar.andi v1024 v1021
  let v1026 : BitVec 32 := Scalar.addi v1020 v1019
  let v1027 : BitVec 32 := Scalar.select v1025 v1026 v1020
  let c1_i32_940 : BitVec 32 := 1#32
  let v1028 : BitVec 32 := Scalar.muli v1027 c1_i32_940
  let v1029 : BitVec 32 := Scalar.addi c0_i32_941 v1028
  v1029.toNat
def k0_dev38 (d0 : Dev nD) : Nat :=
  let c0_i32_955 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c8_i32_946 : BitVec 32 := 8#32
  let v1038 : BitVec 32 := Scalar.addi v2 c8_i32_946
  let c16_i32_947 : BitVec 32 := 16#32
  let c0_i32_948 : BitVec 32 := 0#32
  let v1039 : BitVec 1 := Scalar.cmpi .eq c16_i32_947 c0_i32_948
  let c1_i32_949 : BitVec 32 := 1#32
  let v1040 : BitVec 32 := Scalar.select v1039 c1_i32_949 c16_i32_947
  let v1041 : BitVec 32 := Scalar.remsi v1038 v1040
  let c0_i32_951 : BitVec 32 := 0#32
  let v1043 : BitVec 1 := Scalar.cmpi .slt v1041 c0_i32_951
  let c0_i32_952 : BitVec 32 := 0#32
  let v1044 : BitVec 1 := Scalar.cmpi .slt v1040 c0_i32_952
  let v1045 : BitVec 1 := Scalar.xori v1043 v1044
  let c0_i32_950 : BitVec 32 := 0#32
  let v1042 : BitVec 1 := Scalar.cmpi .ne v1041 c0_i32_950
  let v1046 : BitVec 1 := Scalar.andi v1045 v1042
  let v1047 : BitVec 32 := Scalar.addi v1041 v1040
  let v1048 : BitVec 32 := Scalar.select v1046 v1047 v1041
  let c1_i32_954 : BitVec 32 := 1#32
  let v1049 : BitVec 32 := Scalar.muli v1048 c1_i32_954
  let v1050 : BitVec 32 := Scalar.addi c0_i32_955 v1049
  v1050.toNat
def k0_dev39 (d0 : Dev nD) : Nat :=
  let c0_i32_969 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c9_i32_960 : BitVec 32 := 9#32
  let v1059 : BitVec 32 := Scalar.addi v2 c9_i32_960
  let c16_i32_961 : BitVec 32 := 16#32
  let c0_i32_962 : BitVec 32 := 0#32
  let v1060 : BitVec 1 := Scalar.cmpi .eq c16_i32_961 c0_i32_962
  let c1_i32_963 : BitVec 32 := 1#32
  let v1061 : BitVec 32 := Scalar.select v1060 c1_i32_963 c16_i32_961
  let v1062 : BitVec 32 := Scalar.remsi v1059 v1061
  let c0_i32_965 : BitVec 32 := 0#32
  let v1064 : BitVec 1 := Scalar.cmpi .slt v1062 c0_i32_965
  let c0_i32_966 : BitVec 32 := 0#32
  let v1065 : BitVec 1 := Scalar.cmpi .slt v1061 c0_i32_966
  let v1066 : BitVec 1 := Scalar.xori v1064 v1065
  let c0_i32_964 : BitVec 32 := 0#32
  let v1063 : BitVec 1 := Scalar.cmpi .ne v1062 c0_i32_964
  let v1067 : BitVec 1 := Scalar.andi v1066 v1063
  let v1068 : BitVec 32 := Scalar.addi v1062 v1061
  let v1069 : BitVec 32 := Scalar.select v1067 v1068 v1062
  let c1_i32_968 : BitVec 32 := 1#32
  let v1070 : BitVec 32 := Scalar.muli v1069 c1_i32_968
  let v1071 : BitVec 32 := Scalar.addi c0_i32_969 v1070
  v1071.toNat
def k0_dev40 (d0 : Dev nD) : Nat :=
  let c0_i32_983 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c10_i32_974 : BitVec 32 := 10#32
  let v1080 : BitVec 32 := Scalar.addi v2 c10_i32_974
  let c16_i32_975 : BitVec 32 := 16#32
  let c0_i32_976 : BitVec 32 := 0#32
  let v1081 : BitVec 1 := Scalar.cmpi .eq c16_i32_975 c0_i32_976
  let c1_i32_977 : BitVec 32 := 1#32
  let v1082 : BitVec 32 := Scalar.select v1081 c1_i32_977 c16_i32_975
  let v1083 : BitVec 32 := Scalar.remsi v1080 v1082
  let c0_i32_979 : BitVec 32 := 0#32
  let v1085 : BitVec 1 := Scalar.cmpi .slt v1083 c0_i32_979
  let c0_i32_980 : BitVec 32 := 0#32
  let v1086 : BitVec 1 := Scalar.cmpi .slt v1082 c0_i32_980
  let v1087 : BitVec 1 := Scalar.xori v1085 v1086
  let c0_i32_978 : BitVec 32 := 0#32
  let v1084 : BitVec 1 := Scalar.cmpi .ne v1083 c0_i32_978
  let v1088 : BitVec 1 := Scalar.andi v1087 v1084
  let v1089 : BitVec 32 := Scalar.addi v1083 v1082
  let v1090 : BitVec 32 := Scalar.select v1088 v1089 v1083
  let c1_i32_982 : BitVec 32 := 1#32
  let v1091 : BitVec 32 := Scalar.muli v1090 c1_i32_982
  let v1092 : BitVec 32 := Scalar.addi c0_i32_983 v1091
  v1092.toNat
def k0_dev41 (d0 : Dev nD) : Nat :=
  let c0_i32_997 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c11_i32_988 : BitVec 32 := 11#32
  let v1101 : BitVec 32 := Scalar.addi v2 c11_i32_988
  let c16_i32_989 : BitVec 32 := 16#32
  let c0_i32_990 : BitVec 32 := 0#32
  let v1102 : BitVec 1 := Scalar.cmpi .eq c16_i32_989 c0_i32_990
  let c1_i32_991 : BitVec 32 := 1#32
  let v1103 : BitVec 32 := Scalar.select v1102 c1_i32_991 c16_i32_989
  let v1104 : BitVec 32 := Scalar.remsi v1101 v1103
  let c0_i32_993 : BitVec 32 := 0#32
  let v1106 : BitVec 1 := Scalar.cmpi .slt v1104 c0_i32_993
  let c0_i32_994 : BitVec 32 := 0#32
  let v1107 : BitVec 1 := Scalar.cmpi .slt v1103 c0_i32_994
  let v1108 : BitVec 1 := Scalar.xori v1106 v1107
  let c0_i32_992 : BitVec 32 := 0#32
  let v1105 : BitVec 1 := Scalar.cmpi .ne v1104 c0_i32_992
  let v1109 : BitVec 1 := Scalar.andi v1108 v1105
  let v1110 : BitVec 32 := Scalar.addi v1104 v1103
  let v1111 : BitVec 32 := Scalar.select v1109 v1110 v1104
  let c1_i32_996 : BitVec 32 := 1#32
  let v1112 : BitVec 32 := Scalar.muli v1111 c1_i32_996
  let v1113 : BitVec 32 := Scalar.addi c0_i32_997 v1112
  v1113.toNat
def k0_dev42 (d0 : Dev nD) : Nat :=
  let c0_i32_1011 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c12_i32_1002 : BitVec 32 := 12#32
  let v1122 : BitVec 32 := Scalar.addi v2 c12_i32_1002
  let c16_i32_1003 : BitVec 32 := 16#32
  let c0_i32_1004 : BitVec 32 := 0#32
  let v1123 : BitVec 1 := Scalar.cmpi .eq c16_i32_1003 c0_i32_1004
  let c1_i32_1005 : BitVec 32 := 1#32
  let v1124 : BitVec 32 := Scalar.select v1123 c1_i32_1005 c16_i32_1003
  let v1125 : BitVec 32 := Scalar.remsi v1122 v1124
  let c0_i32_1007 : BitVec 32 := 0#32
  let v1127 : BitVec 1 := Scalar.cmpi .slt v1125 c0_i32_1007
  let c0_i32_1008 : BitVec 32 := 0#32
  let v1128 : BitVec 1 := Scalar.cmpi .slt v1124 c0_i32_1008
  let v1129 : BitVec 1 := Scalar.xori v1127 v1128
  let c0_i32_1006 : BitVec 32 := 0#32
  let v1126 : BitVec 1 := Scalar.cmpi .ne v1125 c0_i32_1006
  let v1130 : BitVec 1 := Scalar.andi v1129 v1126
  let v1131 : BitVec 32 := Scalar.addi v1125 v1124
  let v1132 : BitVec 32 := Scalar.select v1130 v1131 v1125
  let c1_i32_1010 : BitVec 32 := 1#32
  let v1133 : BitVec 32 := Scalar.muli v1132 c1_i32_1010
  let v1134 : BitVec 32 := Scalar.addi c0_i32_1011 v1133
  v1134.toNat
def k0_dev43 (d0 : Dev nD) : Nat :=
  let c0_i32_1025 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c13_i32_1016 : BitVec 32 := 13#32
  let v1143 : BitVec 32 := Scalar.addi v2 c13_i32_1016
  let c16_i32_1017 : BitVec 32 := 16#32
  let c0_i32_1018 : BitVec 32 := 0#32
  let v1144 : BitVec 1 := Scalar.cmpi .eq c16_i32_1017 c0_i32_1018
  let c1_i32_1019 : BitVec 32 := 1#32
  let v1145 : BitVec 32 := Scalar.select v1144 c1_i32_1019 c16_i32_1017
  let v1146 : BitVec 32 := Scalar.remsi v1143 v1145
  let c0_i32_1021 : BitVec 32 := 0#32
  let v1148 : BitVec 1 := Scalar.cmpi .slt v1146 c0_i32_1021
  let c0_i32_1022 : BitVec 32 := 0#32
  let v1149 : BitVec 1 := Scalar.cmpi .slt v1145 c0_i32_1022
  let v1150 : BitVec 1 := Scalar.xori v1148 v1149
  let c0_i32_1020 : BitVec 32 := 0#32
  let v1147 : BitVec 1 := Scalar.cmpi .ne v1146 c0_i32_1020
  let v1151 : BitVec 1 := Scalar.andi v1150 v1147
  let v1152 : BitVec 32 := Scalar.addi v1146 v1145
  let v1153 : BitVec 32 := Scalar.select v1151 v1152 v1146
  let c1_i32_1024 : BitVec 32 := 1#32
  let v1154 : BitVec 32 := Scalar.muli v1153 c1_i32_1024
  let v1155 : BitVec 32 := Scalar.addi c0_i32_1025 v1154
  v1155.toNat
def k0_dev44 (d0 : Dev nD) : Nat :=
  let c0_i32_1039 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c14_i32_1030 : BitVec 32 := 14#32
  let v1164 : BitVec 32 := Scalar.addi v2 c14_i32_1030
  let c16_i32_1031 : BitVec 32 := 16#32
  let c0_i32_1032 : BitVec 32 := 0#32
  let v1165 : BitVec 1 := Scalar.cmpi .eq c16_i32_1031 c0_i32_1032
  let c1_i32_1033 : BitVec 32 := 1#32
  let v1166 : BitVec 32 := Scalar.select v1165 c1_i32_1033 c16_i32_1031
  let v1167 : BitVec 32 := Scalar.remsi v1164 v1166
  let c0_i32_1035 : BitVec 32 := 0#32
  let v1169 : BitVec 1 := Scalar.cmpi .slt v1167 c0_i32_1035
  let c0_i32_1036 : BitVec 32 := 0#32
  let v1170 : BitVec 1 := Scalar.cmpi .slt v1166 c0_i32_1036
  let v1171 : BitVec 1 := Scalar.xori v1169 v1170
  let c0_i32_1034 : BitVec 32 := 0#32
  let v1168 : BitVec 1 := Scalar.cmpi .ne v1167 c0_i32_1034
  let v1172 : BitVec 1 := Scalar.andi v1171 v1168
  let v1173 : BitVec 32 := Scalar.addi v1167 v1166
  let v1174 : BitVec 32 := Scalar.select v1172 v1173 v1167
  let c1_i32_1038 : BitVec 32 := 1#32
  let v1175 : BitVec 32 := Scalar.muli v1174 c1_i32_1038
  let v1176 : BitVec 32 := Scalar.addi c0_i32_1039 v1175
  v1176.toNat
def k0_dev45 (d0 : Dev nD) : Nat :=
  let c0_i32_1053 : BitVec 32 := 0#32
  let v0 : BitVec 32 := Dev.word d0
  let c1_i32 : BitVec 32 := 1#32
  let v1 : BitVec 32 := Scalar.divsi v0 c1_i32
  let c16_i32 : BitVec 32 := 16#32
  let v2 : BitVec 32 := Scalar.remsi v1 c16_i32
  let c15_i32_1044 : BitVec 32 := 15#32
  let v1185 : BitVec 32 := Scalar.addi v2 c15_i32_1044
  let c16_i32_1045 : BitVec 32 := 16#32
  let c0_i32_1046 : BitVec 32 := 0#32
  let v1186 : BitVec 1 := Scalar.cmpi .eq c16_i32_1045 c0_i32_1046
  let c1_i32_1047 : BitVec 32 := 1#32
  let v1187 : BitVec 32 := Scalar.select v1186 c1_i32_1047 c16_i32_1045
  let v1188 : BitVec 32 := Scalar.remsi v1185 v1187
  let c0_i32_1049 : BitVec 32 := 0#32
  let v1190 : BitVec 1 := Scalar.cmpi .slt v1188 c0_i32_1049
  let c0_i32_1050 : BitVec 32 := 0#32
  let v1191 : BitVec 1 := Scalar.cmpi .slt v1187 c0_i32_1050
  let v1192 : BitVec 1 := Scalar.xori v1190 v1191
  let c0_i32_1048 : BitVec 32 := 0#32
  let v1189 : BitVec 1 := Scalar.cmpi .ne v1188 c0_i32_1048
  let v1193 : BitVec 1 := Scalar.andi v1192 v1189
  let v1194 : BitVec 32 := Scalar.addi v1188 v1187
  let v1195 : BitVec 32 := Scalar.select v1193 v1194 v1188
  let c1_i32_1052 : BitVec 32 := 1#32
  let v1196 : BitVec 32 := Scalar.muli v1195 c1_i32_1052
  let v1197 : BitVec 32 := Scalar.addi c0_i32_1053 v1196
  v1197.toNat
abbrev stage0_0 : Fin 1 → Memref sig .tc .vmem S4096x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S256x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== ReferenceIdeal.lean ====
abbrev S4096x4096 : Shape := ⟨2, ![4096, 4096]⟩
abbrev S4096x8192 : Shape := ⟨2, ![4096, 8192]⟩
abbrev S_ : Shape := ⟨0, ![]⟩

abbrev nBuf : Space → Nat
  | .hbm => 26
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x8192, .f32⟩
  | .hbm, ⟨2, _⟩ => ⟨S4096x8192, .f32⟩
  | .hbm, ⟨3, _⟩ => ⟨S_, .f32⟩
  | .hbm, ⟨4, _⟩ => ⟨S4096x8192, .f32⟩
  | .hbm, ⟨5, _⟩ => ⟨S4096x8192, .f32⟩
  | .hbm, ⟨6, _⟩ => ⟨S4096x8192, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S4096x8192, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S4096x8192, .f32⟩
  | .hbm, ⟨20, _⟩ => ⟨S4096x8192, .f32⟩
  | .hbm, ⟨21, _⟩ => ⟨S_, .f32⟩
  | .hbm, ⟨22, _⟩ => ⟨S4096x8192, .f32⟩
  | .hbm, ⟨23, _⟩ => ⟨S4096x8192, .f32⟩
  | .hbm, ⟨24, _⟩ => ⟨S4096x8192, .f32⟩
  | .hbm, ⟨25, _⟩ => ⟨S4096x8192, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_cst_2 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩

abbrev nD : Nat := 1
abbrev τ : Topo := Topo.v7x

variable {F : FTy → Type} [FloatOps F]
-- ==== Proof.Ring.lean ====
/-
  The protocol of the kernel, as data.

  Sixteen devices on a ring run a pipelined reduce-scatter of a matrix product, then tell each other the largest
  entry of the block they hold. This module names the devices, the semaphore cells and the pieces of memory that
  travel, the values each landing carries, and the schedule: for each cell, how many rounds it has, who pays a round,
  how much, and what the payment hands to the waiter.
-/
module

public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.Rounds

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The resource algebra -/

abbrev UB : Type := URounds (GSem nD τ sig) Bool
abbrev UU : Type := UR sig nD τ × UB

local notation "𝕄" => MT nD τ sig ℕ (Elt F) ℕ UU ℕ

abbrev EP : Emb (UR sig nD τ) (MT nD τ sig ℕ (Elt F) ℕ UU ℕ) := embL
abbrev ER : Emb UB (MT nD τ sig ℕ (Elt F) ℕ UU ℕ) := embR

/-! ## The devices on the ring -/

set_option backward.proofsInPublic true in
/-- The device `n` places after `c`. -/
def hop (c : Dev nD) (n : ℕ) : Dev nD := ⟨(c.val + n) % 16, Nat.mod_lt _ (by decide)⟩

/-- The device after `c`. -/
abbrev nxt (c : Dev nD) : Dev nD := hop c 1
/-- The device before `c`. -/
abbrev prv (c : Dev nD) : Dev nD := hop c 15

theorem hop_val (c : Dev nD) (n : ℕ) : (hop c n).val = (c.val + n) % 16 := rfl

theorem hop_hop (c : Dev nD) (a b : ℕ) : hop (hop c a) b = hop c (a + b) :=
  Fin.ext (by simp only [hop_val]; omega)

theorem hop_of_mod (c : Dev nD) {a b : ℕ} (h : a % 16 = b % 16) : hop c a = hop c b :=
  Fin.ext (by simp only [hop_val]; omega)

theorem hop_zero (c : Dev nD) : hop c 0 = c := Fin.ext (by have h : c.val < 16 := c.isLt; simp only [hop_val]; omega)

theorem hop_full (c : Dev nD) {n : ℕ} (h : n % 16 = 0) : hop c n = c := (hop_of_mod c (b := 0) (by omega)).trans (hop_zero c)

theorem prv_nxt (c : Dev nD) : prv (nxt c) = c := (hop_hop c 1 15).trans (hop_full c rfl)
theorem nxt_prv (c : Dev nD) : nxt (prv c) = c := (hop_hop c 15 1).trans (hop_full c rfl)

/-- Moving every device `n` places, as a permutation. -/
def turn (n : ℕ) (hn : n ≤ 16) : Dev nD ≃ Dev nD :=
  ⟨fun c => hop c n, fun c => hop c (16 - n), fun c => (hop_hop c _ _).trans (hop_full c (by omega)),
    fun c => (hop_hop c _ _).trans (hop_full c (by omega))⟩

/-! ## The semaphore cells

The kernel's own semaphores are numbered so that no regular one shares its number with a transfer semaphore the kernel
uses: 0 and 1 the two credit semaphores, 2 the runtime's barrier, 3 and 4 the send semaphores, 5 and 6 the receive
semaphores, 7 to 21 the send semaphores of the broadcast, 22 to 37 its receive semaphores. -/

/-- The semaphore of number `n`. -/
def semN (n : ℕ) : SemLoc sig :=
  if h : n < 3 then .reg ⟨n, h⟩ else .dma ⟨n % 38, Nat.mod_lt _ (by decide)⟩

/-- The number of a semaphore; a staging semaphore gets one out of the way. -/
def numS : SemLoc sig → ℕ
  | .reg q => q.val
  | .dma q => if q.val < 3 then 100 else q.val

/-- The cell of number `n` on device `c`. -/
abbrev cell (c : Dev nD) (n : ℕ) : GSem nD τ sig := ((c : Thread nD τ), semN n)

theorem numS_semN {n : ℕ} (h : n < 38) : numS (semN n) = n := by
  unfold semN numS
  by_cases h3 : n < 3
  · rw [dif_pos h3]
  · rw [dif_neg h3]
    show (if n % 38 < 3 then 100 else n % 38) = n
    rw [Nat.mod_eq_of_lt h, if_neg h3]

theorem semN_inj {a b : ℕ} (ha : a < 38) (hb : b < 38) (h : semN a = semN b) : a = b := by
  rw [← numS_semN ha, h, numS_semN hb]

theorem cell_inj {c d : Dev nD} {a b : ℕ} (ha : a < 38) (hb : b < 38) (h : cell c a = cell d b) : c = d ∧ a = b :=
  ⟨Fin.ext (congrArg (fun g : GSem nD τ sig => g.1.1.val) h), semN_inj ha hb (congrArg Prod.snd h)⟩

theorem semN_reg {n : ℕ} (h : n < 3) : semN n = .reg ⟨n, h⟩ := dif_pos h
theorem semN_dma {n : ℕ} (h : 3 ≤ n) (h' : n < 38) : semN n = .dma ⟨n, h'⟩ := by
  unfold semN; rw [dif_neg (by omega)]; exact congrArg SemLoc.dma (Fin.ext (Nat.mod_eq_of_lt h'))

/-! The semaphores the program names are these. -/

/-- One place of an array of semaphores lies in the array. -/
theorem one_inb2 : ∀ (k : Fin 2) (a), (![k.val] : Fin 1 → ℕ) a + S1.size a ≤ S2.size a := by decide
theorem one_inb15 : ∀ (k : Fin 15) (a), (![k.val] : Fin 1 → ℕ) a + S1.size a ≤ S15.size a := by decide
theorem one_inb16 : ∀ (k : Fin 16) (a), (![k.val] : Fin 1 → ℕ) a + S1.size a ≤ S16.size a := by decide

theorem sem_credit {k : ℕ} (hk : k < 2) (h) :
    (SemLoc.reg ((cc0_scratch5.slice (Rect.unit ![k] S1.size h)).squeeze S_ squeezes_S1_S_).sem : SemLoc sig) = semN k :=
  (by decide +kernel : ∀ k : Fin 2, (SemLoc.reg ((cc0_scratch5.slice (Rect.unit ![k.val] S1.size (one_inb2 k))).squeeze S_ squeezes_S1_S_).sem : SemLoc sig)
    = semN k.val) ⟨k, hk⟩
theorem sem_send {k : ℕ} (hk : k < 2) (h) :
    (SemLoc.dma ((cc0_scratch3.slice (Rect.unit ![k] S1.size h)).squeeze S_ squeezes_S1_S_).sem : SemLoc sig) = semN (3 + k) :=
  (by decide +kernel : ∀ k : Fin 2, (SemLoc.dma ((cc0_scratch3.slice (Rect.unit ![k.val] S1.size (one_inb2 k))).squeeze S_ squeezes_S1_S_).sem : SemLoc sig)
    = semN (3 + k.val)) ⟨k, hk⟩
theorem sem_recv {k : ℕ} (hk : k < 2) (h) :
    (SemLoc.dma ((cc0_scratch4.slice (Rect.unit ![k] S1.size h)).squeeze S_ squeezes_S1_S_).sem : SemLoc sig) = semN (5 + k) :=
  (by decide +kernel : ∀ k : Fin 2, (SemLoc.dma ((cc0_scratch4.slice (Rect.unit ![k.val] S1.size (one_inb2 k))).squeeze S_ squeezes_S1_S_).sem : SemLoc sig)
    = semN (5 + k.val)) ⟨k, hk⟩
theorem sem_bsend {k : ℕ} (hk : k < 15) (h) :
    (SemLoc.dma ((cc0_scratch6.slice (Rect.unit ![k] S1.size h)).squeeze S_ squeezes_S1_S_).sem : SemLoc sig) = semN (7 + k) :=
  (by decide +kernel : ∀ k : Fin 15, (SemLoc.dma ((cc0_scratch6.slice (Rect.unit ![k.val] S1.size (one_inb15 k))).squeeze S_ squeezes_S1_S_).sem : SemLoc sig)
    = semN (7 + k.val)) ⟨k, hk⟩
theorem sem_brecv {k : ℕ} (hk : k < 16) (h) :
    (SemLoc.dma ((cc0_scratch7.slice (Rect.unit ![k] S1.size h)).squeeze S_ squeezes_S1_S_).sem : SemLoc sig) = semN (22 + k) :=
  (by decide +kernel : ∀ k : Fin 16, (SemLoc.dma ((cc0_scratch7.slice (Rect.unit ![k.val] S1.size (one_inb16 k))).squeeze S_ squeezes_S1_S_).sem : SemLoc sig)
    = semN (22 + k.val)) ⟨k, hk⟩
theorem sem_brecv_own (c : Dev nD) (h) : (SemLoc.dma ((cc0_scratch7.slice (Rect.unit (k0_off3 c) S1.size h)).squeeze S_ squeezes_S1_S_).sem : SemLoc sig) = semN (22 + c.val) := by
  have e := cc0_scratch7.slice_unit_congr (size := S1.size) (k0_off3_eq c) h (by rw [← k0_off3_eq c]; exact h)
  rw [show cc0_scratch7.slice (Rect.unit (k0_off3 c) S1.size h) = _ from e]
  exact sem_brecv c.isLt _

/-! ## The pieces of memory that travel -/

abbrev recvM : Memref sig .tc .vmem S2x256x8192 .f32 := Memref.whole cc0_scratch0
abbrev sendM : Memref sig .tc .vmem S2x256x8192 .f32 := Memref.whole cc0_scratch1
abbrev maxM : Memref sig .tc .vmem S16x8x128 .f32 := Memref.whole cc0_scratch2

theorem blk_inb (k : ℕ) : ∀ a, (![k % 2, 0, 0] : Fin 3 → ℕ) a + S1x256x8192.size a ≤ S2x256x8192.size a :=
  (by decide : ∀ (k : Fin 2) (a), (![k.val, 0, 0] : Fin 3 → ℕ) a + S1x256x8192.size a ≤ S2x256x8192.size a) ⟨k % 2, Nat.mod_lt _ (by decide)⟩
theorem row_inb (d : Dev nD) : ∀ a, (![d.val, 0, 0] : Fin 3 → ℕ) a + S1x8x128.size a ≤ S16x8x128.size a :=
  (by decide : ∀ (d : Dev nD) (a), (![d.val, 0, 0] : Fin 3 → ℕ) a + S1x8x128.size a ≤ S16x8x128.size a) d
theorem rows_inb (d : Dev nD) : ∀ a, (![d.val * 256, 0] : Fin 2 → ℕ) a + S256x256.size a ≤ S4096x256.size a :=
  (by decide : ∀ (d : Dev nD) (a), (![d.val * 256, 0] : Fin 2 → ℕ) a + S256x256.size a ≤ S4096x256.size a) d

/-- Slot `k` (counted modulo 2) of a double buffer; row `d` of the array of maxima; the rows of `x` of block `d`. -/
abbrev blkR (k : ℕ) : Rect S2x256x8192 := Rect.unit ![k % 2, 0, 0] S1x256x8192.size (blk_inb k)
abbrev rowR (d : Dev nD) : Rect S16x8x128 := Rect.unit ![d.val, 0, 0] S1x8x128.size (row_inb d)
abbrev rowsR (d : Dev nD) : Rect S4096x256 := Rect.unit ![d.val * 256, 0] S256x256.size (rows_inb d)

/-- The units a transfer of a block, and of a row of maxima, credits. -/
abbrev NBlk : ℕ := ((recvM.slice (blkR 0) (fun _ => rfl)).squeeze S256x8192 squeezes_S1x256x8192_S256x8192).view.dmaCredit
abbrev NRow : ℕ := ((maxM.slice (rowR 0) (fun _ => rfl)).squeeze S8x128 squeezes_S1x8x128_S8x128).view.dmaCredit

theorem NBlk_pos : 0 < NBlk := View.dmaCredit_pos _ (by decide)
theorem NRow_pos : 0 < NRow := View.dmaCredit_pos _ (by decide)

/-- Device `c` holds slot `k` of a double buffer `M`, at contents `v`. -/
def blkAt (M : Memref sig .tc .vmem S2x256x8192 .f32) (c : Dev nD) (k : ℕ) (v : Vec F S1x256x8192 .f32) : sProp 𝕄 :=
  owns (c : Thread nD τ) (M.slice (blkR k) (fun _ => rfl)) fullShare v
/-- Device `c` holds a share of row `d` of its array of maxima, at contents `v`. -/
def rowAt (c d : Dev nD) (q : PosShare TreeShare) (v : Vec F S1x8x128 .f32) : sProp 𝕄 :=
  owns (c : Thread nD τ) (maxM.slice (rowR d) (fun _ => rfl)) q v
/-- The same with whatever contents. -/
def blkAny (M : Memref sig .tc .vmem S2x256x8192 .f32) (c : Dev nD) (k : ℕ) : sProp 𝕄 := iprop(∃ v, blkAt (F := F) M c k v)
def rowAny (c d : Dev nD) : sProp 𝕄 := iprop(∃ v, rowAt (F := F) c d fullShare v)

instance blkAt_storable (M c k) (v : Vec F S1x256x8192 .f32) : BI.Storable (upEmb : UEmb _ 𝕄) (blkAt M c k v) := by unfold blkAt; infer_instance
instance rowAt_storable (c d q) (v : Vec F S1x8x128 .f32) : BI.Storable (upEmb : UEmb _ 𝕄) (rowAt c d q v) := by unfold rowAt; infer_instance
instance blkAny_storable (M c k) : BI.Storable (upEmb : UEmb _ 𝕄) (blkAny (F := F) M c k) := by unfold blkAny; infer_instance
instance rowAny_storable (c d) : BI.Storable (upEmb : UEmb _ 𝕄) (rowAny (F := F) c d) := by unfold rowAny; infer_instance

/-- The rows `c`'s offsets `n` to 15 of device `d`'s array of maxima: what a device still has to pass on of them. -/
def bundle (d : Dev nD) (n : ℕ) : sProp 𝕄 := bigSep (Finset.Ico n 16) fun o => rowAny (F := F) d (hop d o)

instance bundle_storable (d n) : BI.Storable (upEmb : UEmb _ 𝕄) (bundle (F := F) d n) := by unfold bundle; infer_instance

/-! ## The values -/

section Values

variable (X : Dev nD → Vec F S4096x256 .f32) (W : Dev nD → Vec F S256x8192 .f32)

/-- The rows of block `b` of a device's `x`. -/
def rows (b : Dev nD) (x : Vec F S4096x256 .f32) : Vec F S256x256 .f32 := fun i => x ((rowsR b).emb i)

/-- What device `c` sends at step `s`: its own product for the block that travels, added to what the device before it
    sent for that block at the step before. -/
def carry : ℕ → Dev nD → Vec F S1x256x8192 .f32
  | 0, c => k0_pay1 (rows (hop c 15) (X c)) (W c)
  | s + 1, c => k0_pay5 (rows (hop c (15 - (s + 1))) (X c)) (W c) (carry s (prv c))

/-- Device `c`'s own product for the block it ends with, -/
def lastDot (c : Dev nD) : Vec F S256x8192 .f32 := k0_pay29 (rows c (X c)) (W c)
/-- that block, summed over the devices and clamped below at zero, -/
def total (c : Dev nD) : Vec F S256x8192 .f32 := k0_pay30 (lastDot X W c) (carry X W 14 (prv c))
/-- and its largest entry, in every place of a row. -/
def peak (c : Dev nD) : Vec F S1x8x128 .f32 := k0_pay31 (lastDot X W c) (carry X W 14 (prv c))

/-- The array of maxima once every device has told the others: row `d` is device `d`'s. -/
def peaks : Vec F S16x8x128 .f32 := fun i => peak X W (i 0) (fun a => if h : a = 0 then ⟨0, by subst h; decide⟩ else ⟨(i a).val, by
  have := (i a).isLt; fin_cases a <;> first | exact absurd rfl h | exact this⟩)

/-- The block device `c` ends with, quantised. -/
def result (c : Dev nD) : Vec F S256x8192 .f32 := k0_pay33 (k0_pay32 (peaks X W)) (total X W c)

/-! ## The schedule -/

/-- How many rounds the cell of number `n` on device `c` has: credit 0 the even steps from 2 to 14, credit 1 the odd ones
    from 3 to 13; send and receive 0 the even steps from 0 to 14, 1 the odd ones; a device does not tell itself its maximum. -/
def roundsOf (c : Dev nD) (n : ℕ) : ℕ :=
  if n = 0 then 7 else if n = 1 then 6 else if n = 2 then 1 else if n < 7 then (if n % 2 = 1 then 8 else 7)
  else if n < 22 then 1 else if n < 38 then (if n = 22 + c.val then 0 else 1) else 0

/-- The share of its row of maxima that goes with the broadcast's transfer `i`: half of what the ones before left. -/
def restShare : ℕ → PosShare TreeShare
  | 0 => fullShare
  | i + 1 => (restShare i).right
def pieceShare (i : ℕ) : PosShare TreeShare := (restShare i).left

/-- The barrier payment from the device after `c`: that device's two receive slots. -/
def barPay (c : Dev nD) : sProp 𝕄 := iprop(blkAny (F := F) recvM (nxt c) 0 ∗ blkAny (F := F) recvM (nxt c) 1)
/-- The credit for step `2 (r + 1) + k`: the next device's receive slot `k`, which it has emptied `r + 1` times. -/
def creditPay (c : Dev nD) (k r : ℕ) : sProp 𝕄 := iprop(blkAny (F := F) recvM (nxt c) k ∗ reached ER (cell (nxt c) (5 + k)) (r + 1))
/-- What lands on `c` from the device before it at step `s`: the partial sum in the slot; with it the rows of maxima of
    a device further back that are to travel on, and that the sender has taken its credits up to this one. -/
def recvPay (c : Dev nD) (s : ℕ) : sProp 𝕄 :=
  iprop(blkAt recvM c s (carry X W s (prv c)) ∗ bundle (F := F) (hop c (15 - s)) (s + 1) ∗ reached ER (cell (prv c) (s % 2)) (s / 2))

instance barPay_storable (c) : BI.Storable (upEmb : UEmb _ 𝕄) (barPay (F := F) c) := by unfold barPay; infer_instance
instance creditPay_storable (c k r) : BI.Storable (upEmb : UEmb _ 𝕄) (creditPay (F := F) c k r) := by unfold creditPay; infer_instance
instance recvPay_storable (c s) : BI.Storable (upEmb : UEmb _ 𝕄) (recvPay X W c s) := by unfold recvPay; infer_instance

/-- What round `r` of cell `n` hands to device `c`. -/
def payOf (c : Dev nD) (n r : ℕ) (d : Bool) : sProp 𝕄 :=
  if n = 2 then (if d then barPay c else iprop(emp))
  else if n < 2 then creditPay c n r
  else if n < 5 then blkAny sendM c (n - 3)
  else if n < 7 then recvPay X W c (2 * r + (n - 5))
  else if n < 22 then rowAt c c (pieceShare (n - 7)) (peak X W c)
  else rowAt c (hop 0 (n - 22)) fullShare (peak X W (hop 0 (n - 22)))

instance payOf_storable (c n r d) : BI.Storable (upEmb : UEmb _ 𝕄) (payOf X W c n r d) := by
  unfold payOf; (repeat' split) <;> infer_instance

/-- The whole protocol. Only a barrier has two payments a round; a signal is one unit, a transfer what it credits. -/
def sched : Rounds.Schedule (GSem nD τ sig) Bool 𝕄 where
  duties g r := if r < roundsOf g.1.1 (numS g.2) then (if numS g.2 = 2 then Finset.univ else {false}) else ∅
  unitless _ := False
  amount g _ _ := if numS g.2 < 3 then 1 else if numS g.2 < 7 then NBlk else NRow
  payload g r d := payOf X W g.1.1 (numS g.2) r d
  amount_pos g _ _ _ := by
    have h1 := NBlk_pos; have h2 := NRow_pos
    split
    · exact Nat.one_pos
    · split <;> assumption

instance sched_storable (g r d) : BI.Storable (upEmb : UEmb _ 𝕄) ((sched X W).payload g r d) := payOf_storable X W _ _ _ _

/-! What the schedule says at a numbered cell. -/

theorem duties_cell (c : Dev nD) {n r : ℕ} (hn : n < 38) (h2 : n ≠ 2) (hr : r < roundsOf c n) : (sched X W).duties (cell c n) r = {false} := by
  show (if r < roundsOf c (numS (semN n)) then (if numS (semN n) = 2 then Finset.univ else {false}) else ∅) = _
  rw [numS_semN hn, if_pos hr, if_neg h2]
theorem duties_bar (c : Dev nD) : (sched X W).duties (cell c 2) 0 = Finset.univ := rfl
theorem duties_done (c : Dev nD) {n : ℕ} (hn : n < 38) : ∀ r, roundsOf c n ≤ r → (sched X W).duties (cell c n) r = ∅ := fun r hr => by
  show (if r < roundsOf c (numS (semN n)) then (if numS (semN n) = 2 then Finset.univ else {false}) else ∅) = _
  rw [numS_semN hn, if_neg (by omega)]

/-- The units of a payment on cell `n`. -/
abbrev unitsOf (n : ℕ) : ℕ := if n < 3 then 1 else if n < 7 then NBlk else NRow

theorem amount_cell (c : Dev nD) {n : ℕ} (hn : n < 38) (r : ℕ) (d : Bool) : (sched X W).amount (cell c n) r d = unitsOf n := by
  show (if numS (semN n) < 3 then 1 else if numS (semN n) < 7 then NBlk else NRow) = _
  rw [numS_semN hn]
theorem payload_cell (c : Dev nD) {n : ℕ} (hn : n < 38) (r : ℕ) (d : Bool) : (sched X W).payload (cell c n) r d = payOf X W c n r d := by
  show payOf X W c (numS (semN n)) r d = _
  rw [numS_semN hn]

theorem expect_cell (c : Dev nD) {n r : ℕ} (hn : n < 38) (h2 : n ≠ 2) (hr : r < roundsOf c n) : (sched X W).expect (cell c n) r = unitsOf n := by
  unfold Schedule.expect Schedule.amountOf
  rw [duties_cell X W c hn h2 hr, Finset.sum_singleton, amount_cell X W c hn]
theorem expect_bar (c : Dev nD) : (sched X W).expect (cell c 2) 0 = 2 := by
  unfold Schedule.expect Schedule.amountOf
  rw [duties_bar, Finset.sum_congr rfl fun d _ => amount_cell X W c (by decide : 2 < 38) 0 d, Finset.sum_const, Finset.card_univ, Fintype.card_bool]
  rfl

/-- All of a round's payments, none taken before. -/
theorem rest_cell (c : Dev nD) {n r : ℕ} (hn : n < 38) (h2 : n ≠ 2) (hr : r < roundsOf c n) :
    bigSep ((sched X W).duties (cell c n) r \ ∅) (fun d => (sched X W).payload (cell c n) r d) = payOf X W c n r false := by
  rw [Finset.sdiff_empty, duties_cell X W c hn h2 hr, bigSep_singleton, payload_cell X W c hn]
theorem rest_bar (c : Dev nD) :
    bigSep ((sched X W).duties (cell c 2) 0 \ ∅) (fun d => (sched X W).payload (cell c 2) 0 d) = iprop(emp ∗ barPay (F := F) c) := by
  rw [Finset.sdiff_empty, duties_bar, bigSep_univ_eq_bigSepL [false, true] (by decide) (by decide), bigSepL_cons_cons, bigSepL_singleton,
    payload_cell X W c (by decide), payload_cell X W c (by decide)]
  rfl

end Values

end Cert.KernelIdeal.RS

end
-- ==== Proof.Debt.lean ====
/-
  What a device owes, and the order in which everything is waited for.

  A device's debts are the transfers and signals it has still to issue. Each is indexed by the step it belongs to; the
  levels make every wait lie below every debt the waiting device then has, so that no set of devices waits in a circle.
-/
module

public import proofs.«01_k».proof.Proof.Ring
public import Idealize.ShloMosaic.Lib.Ring

@[expose] public section

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ
local notation "𝕋" => CellTallies nD τ sig ℕ

/-! ## Debts -/

/-- The transfer to the next device at step `s`; the credit to the device before for its step `s`; the maximum told to
    the device `i` places on. -/
def oweSend (c : Dev nD) (s : ℕ) : 𝕋 := tallyAt (cell (nxt c) (5 + s % 2)) s NBlk
def oweCredit (c : Dev nD) (s : ℕ) : 𝕋 := tallyAt (cell (prv c) (s % 2)) s 1
def oweRow (c : Dev nD) (i : ℕ) : 𝕋 := tallyAt (cell (hop c i) (22 + c.val)) 0 NRow

/-- What is left to issue: transfers from step `a` on, credits from step `b` on, maxima from `o` places on. -/
def debt (c : Dev nD) (a b o : ℕ) : 𝕋 :=
  (∑ s ∈ Finset.Ico a 15, oweSend c s) + (∑ s ∈ Finset.Ico b 15, oweCredit c s) + ∑ i ∈ Finset.Ico o 16, oweRow c i

theorem debt_send (c : Dev nD) {a : ℕ} (b o : ℕ) (h : a < 15) : debt c a b o = debt c (a + 1) b o + oweSend c a := by
  unfold debt; rw [Ring.sum_Ico_succ h]; ac_rfl
theorem debt_credit (c : Dev nD) (a : ℕ) {b : ℕ} (o : ℕ) (h : b < 15) : debt c a b o = debt c a (b + 1) o + oweCredit c b := by
  unfold debt; rw [Ring.sum_Ico_succ h]; ac_rfl
theorem debt_row (c : Dev nD) (a b : ℕ) {o : ℕ} (h : o < 16) : debt c a b o = debt c a b (o + 1) + oweRow c o := by
  unfold debt; rw [Ring.sum_Ico_succ h]; ac_rfl
theorem debt_none (c : Dev nD) : debt c 15 15 16 = 0 := by
  unfold debt; simp

/-- What a device owes at the start: all of that, and a unit to either neighbour's barrier. -/
def owed₀ (c : Dev nD) : 𝕋 := debt c 0 2 1 + tallyAt (cell (nxt c) 2) 0 1 + tallyAt (cell (prv c) 2) 0 1

/-! ## Levels -/

/-- Every index in use is a step number. -/
def idx (g : GSem nD τ sig) : Finset ℕ := if g.1.2 = .tc then Finset.range 16 else ∅

/-- The barrier at 1, then for each step its credit and its transfer, the maxima last; staging and send semaphores,
    whose transfers are the waiter's own, at 0. -/
def lev (g : GSem nD τ sig) (s : ℕ) : ℕ :=
  if numS g.2 = 2 then 1 else if numS g.2 < 2 then 2 * s + 2 else if numS g.2 = 5 ∨ numS g.2 = 6 then 2 * s + 3
  else if 22 ≤ numS g.2 ∧ numS g.2 < 38 then 100 else 0

theorem idx_of_ne (g : GSem nD τ sig) (h : g.1.2 ≠ .tc) : idx g = ∅ := if_neg h
theorem mem_idx (c : Dev nD) (sm : SemLoc sig) {s : ℕ} (h : s < 16) : s ∈ idx ((c : Thread nD τ), sm) := by
  unfold idx; rw [if_pos rfl]; exact Finset.mem_range.mpr h

theorem lev_cell (c : Dev nD) {n : ℕ} (hn : n < 38) (s : ℕ) : lev (cell c n) s =
    if n = 2 then 1 else if n < 2 then 2 * s + 2 else if n = 5 ∨ n = 6 then 2 * s + 3 else if 22 ≤ n ∧ n < 38 then 100 else 0 := by
  show (if numS (semN n) = 2 then 1 else if numS (semN n) < 2 then 2 * s + 2 else if numS (semN n) = 5 ∨ numS (semN n) = 6 then 2 * s + 3
    else if 22 ≤ numS (semN n) ∧ numS (semN n) < 38 then 100 else 0) = _
  rw [numS_semN hn]

/-- What is left to issue lies on a core's cell, at a step number, no lower than its first transfer and its first credit. -/
theorem debt_pos {c : Dev nD} {a b o : ℕ} {g : GSem nD τ sig} {s : ℕ} (h : 0 < debt c a b o g s) :
    s ∈ idx g ∧ (2 * a + 3 ≤ lev g s ∨ 2 * b + 2 ≤ lev g s ∨ 100 ≤ lev g s) := by
  rcases Pipeline.add_pos_cases h with h | h
  · rcases Pipeline.add_pos_cases h with h | h
    · obtain ⟨i, hi, h⟩ := Pipeline.sum_pos_exists h
      obtain ⟨rfl, rfl⟩ := Pipeline.tallyAt_pos h
      rw [Finset.mem_Ico] at hi
      refine ⟨mem_idx _ _ (by omega), .inl ?_⟩
      rw [lev_cell _ (by omega), if_neg (by omega), if_neg (by omega), if_pos (by omega)]; omega
    · obtain ⟨i, hi, h⟩ := Pipeline.sum_pos_exists h
      obtain ⟨rfl, rfl⟩ := Pipeline.tallyAt_pos h
      rw [Finset.mem_Ico] at hi
      refine ⟨mem_idx _ _ (by omega), .inr (.inl ?_)⟩
      rw [lev_cell _ (by omega), if_neg (by omega), if_pos (by omega)]; omega
  · obtain ⟨i, hi, h⟩ := Pipeline.sum_pos_exists h
    obtain ⟨rfl, rfl⟩ := Pipeline.tallyAt_pos h
    have hc : c.val < 16 := c.isLt
    refine ⟨mem_idx _ _ (by omega), .inr (.inr ?_)⟩
    rw [lev_cell _ (by omega), if_neg (by omega), if_neg (by omega), if_neg (by omega), if_pos (by omega)]

theorem owed₀_pos {c : Dev nD} {g : GSem nD τ sig} {s : ℕ} (h : 0 < owed₀ c g s) : s ∈ idx g ∧ 1 ≤ lev g s := by
  rcases Pipeline.add_pos_cases h with h | h
  · rcases Pipeline.add_pos_cases h with h | h
    · obtain ⟨h1, h2⟩ := debt_pos h; exact ⟨h1, by omega⟩
    · obtain ⟨rfl, rfl⟩ := Pipeline.tallyAt_pos h
      exact ⟨mem_idx _ _ (by omega), by rw [lev_cell _ (by omega), if_pos rfl]⟩
  · obtain ⟨rfl, rfl⟩ := Pipeline.tallyAt_pos h
    exact ⟨mem_idx _ _ (by omega), by rw [lev_cell _ (by omega), if_pos rfl]⟩

/-- A core may wait on one of its semaphores when everything it owes lies above it. -/
theorem mayWait_of (c : Dev nD) (sm : SemLoc sig) {s : ℕ} (hs : s < 16) (O : 𝕋)
    (h : ∀ g u, 0 < O g u → u ∈ idx g ∧ lev ((c : Thread nD τ), sm) s < lev g u) :
    (levAts idx lev : sProp 𝕄) ⊢ MayWait (c : Thread nD τ) sm s O :=
  Pipeline.mayWait_of_levAts (mem_idx _ _ hs) h

theorem mayWait_debt (c : Dev nD) {n s a b : ℕ} (o : ℕ) (hn : n < 38) (hs : s < 16)
    (ha : lev (cell c n) s < 2 * a + 3) (hb : lev (cell c n) s < 2 * b + 2) (h : lev (cell c n) s < 100) :
    (levAts idx lev : sProp 𝕄) ⊢ MayWait (c : Thread nD τ) (semN n) s (debt c a b o) :=
  mayWait_of c (semN n) hs _ fun g u hg => by
    obtain ⟨h1, h2⟩ := debt_pos hg
    exact ⟨h1, show lev (cell c n) s < lev g u by omega⟩

end Cert.KernelIdeal.RS

end
-- ==== Proof.Slots.lean ====
/-
  Reading, writing and sending a slice of a buffer, by what the slice holds.

  A slice is held with the array it reads as, the rest of its buffer left out. A load through the slice's rectangle gives
  that array, a store replaces it, and a transfer of the squeezed slice puts it into the target's slice.
-/
module

public import proofs.«01_k».proof.Proof.Debt
public import Idealize.ShloMosaic.Lib.MemrefSat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

/-- A program of a core, and the weakest precondition it is run at. -/
abbrev KProg (F : FTy → Type) (α : Type) : Type 1 := Prog (TpuEff nD τ sig (Elt F) Λ₀ .tc) α
abbrev run (c : Dev nD) {α : Type} (p : KProg F α) (Q : α → sProp 𝕄) : sProp 𝕄 :=
  wp frame (wpE (defs₀ (F := F)) Variants.none (c : Thread nD τ) none) Set.univ p Q

section Slice

variable {s s' : Shape} {e : EltTy} (c : Dev nD) {α : Type}

theorem run_load {cs : CoreSpace} {m : Memref sig .tc cs s e} {r : Rect s} (hr : ∀ a, r.stride a = 1) {hl : m.view.LoadsAt r}
    {k : (r.shape.Idx → Elt F e) → KProg F α} {Q : α → sProp 𝕄} (q : PosShare TreeShare) (v : r.shape.Idx → Elt F e) :
    (owns (c : Thread nD τ) (m.slice r hr) q v : sProp 𝕄)
      ⊢ iprop((owns (c : Thread nD τ) (m.slice r hr) q v -∗ run c (k v) Q) -∗ run c (.op (.load m r hl) k) Q) := by
  unfold owns
  iintro ⟨%f, %hf, H⟩ Hk
  iapply (wp_load_rect Variants.none (c : Thread nD τ) none Set.univ (m := m) (r := r) (f := f) (S := (m.access r).set) (Finset.Subset.refl _)) $$ H
  iintro H
  rw [show (m.access r).read (Elt F) f = v from hf]
  iapply Hk
  iexists f; isplitr
  · ipureintro; exact hf
  · iexact H

theorem run_store {cs : CoreSpace} {m : Memref sig .tc cs s e} {r : Rect s} (hr : ∀ a, r.stride a = 1) {w : r.shape.Idx → Elt F e}
    {hx : (m.access r).Stores Finset.univ} {hm : (Finset.univ : Finset r.shape.Idx) = Finset.univ ∨ ∀ a, r.stride a = 1} {k : PUnit → KProg F α} {Q : α → sProp 𝕄} (v : r.shape.Idx → Elt F e) :
    (owns (c : Thread nD τ) (m.slice r hr) fullShare v : sProp 𝕄)
      ⊢ iprop((owns (c : Thread nD τ) (m.slice r hr) fullShare w -∗ run c (k ⟨⟩) Q) -∗ run c (.op (.store m r w Finset.univ hx hm) k) Q) := by
  have hS : (m.access r).setOn Finset.univ ⊆ (m.access r).set := Finset.Subset.refl _
  unfold owns
  iintro ⟨%f, %hf, H⟩ Hk
  have hw : (m.slice r hr).view.read (Elt F) ((m.access r).write (Elt F) f w Finset.univ) = w := View.read_write_univ f w
  iapply (wp_store Variants.none (c : Thread nD τ) none Set.univ (m := m) (r := r) (Mk := Finset.univ) (f := f) (S := (m.access r).set) hS) $$ H
  iintro H
  iapply Hk
  iexists _; isplitr
  rotate_left
  · iexact H
  · ipureintro; exact hw

/-- Writing through a squeezed view what another squeezed view reads puts the one's array into the other. -/
theorem read_write_reshape {κ κ' : Kind} {sp sp' : Space} (v : View sig κ sp s e) (v' : View sig κ' sp' s e) (h : s'.numel = s.numel)
    (f : v.ty.Contents (Elt F)) (g : v'.ty.Contents (Elt F)) :
    v'.read (Elt F) ((v'.reshape s' h).write (Elt F) g ((v.reshape s' h).read (Elt F) f) Finset.univ) = v.read (Elt F) f := by
  have e1 := View.read_write_univ (v := v'.reshape s' h) (Val := Elt F) g ((v.reshape s' h).read (Elt F) f)
  funext i
  have e2 := congrFun e1 ((Shape.reshapeEquiv h).symm i)
  simpa [View.read, View.reshape] using e2

variable (X : Dev nD → Vec F S4096x256 .f32) (W : Dev nD → Vec F S256x8192 .f32)

/-- Sending a squeezed slice: the target's slice lands holding what the source's holds. -/
theorem run_send {sp sp' : Space} (d n : Dev nD) (hn : n = d) {ms : Memref sig .tc sp s e} {md : Memref sig .tc sp' s e} {h : s.Squeezes s'} {sS sR : SemLoc sig}
    (nS nR : ℕ) (hS : sS = semN nS) (hR : sR = semN nR)
    {hsc : (md.squeeze s' h).view.ref.isScScratch = false} {hsrc : (ms.squeeze s' h).view.WordExact} {hdst : (md.squeeze s' h).view.WordExact}
    {hsem : DmaTarget.Typed sp sR (.remote (Dev.tc n : Thread nD τ) (md.squeeze s' h) sS hsc)} {k : PUnit → KProg F α} {Q : α → sProp 𝕄} (κ₁ κ₂ r₁ r₂ N i : ℕ) (q : PosShare TreeShare) (v : s.Idx → Elt F e) (P : sProp 𝕄)
    (hd₁ : false ∈ (sched X W).duties (cell c nS) r₁) (hd₂ : false ∈ (sched X W).duties (cell d nR) r₂)
    (hN : (md.squeeze s' h).view.amount (semN nR) = N) (hk₁ : (sched X W).amount (cell c nS) r₁ false = N) (hk₂ : (sched X W).amount (cell d nR) r₂ false = N)
    (O : CellTallies nD τ sig ℕ) {O₀ : CellTallies nD τ sig ℕ} (hO : O₀ = O + tallyAt (cell d nR) i N) {wt : Waits sig ℕ}
    (hp₁ : owns (c : Thread nD τ) ms q v ⊢ (sched X W).payload (cell c nS) r₁ false)
    (hp₂ : iprop(owns (d : Thread nD τ) md fullShare v ∗ P) ⊢ (sched X W).payload (cell d nR) r₂ false) :
    iprop(cellInv ER (sched X W) κ₁ (cell c nS) ∗ cellInv ER (sched X W) κ₂ (cell d nR)
        ∗ owns (c : Thread nD τ) ms q v ∗ (∃ w, owns (d : Thread nD τ) md fullShare w) ∗ P ∗ owes (c : Thread nD τ) O₀ wt
        ∗ dutyTok ER (cell c nS) r₁ false ∗ reached ER (cell c nS) r₁ ∗ dutyTok ER (cell d nR) r₂ false ∗ reached ER (cell d nR) r₂)
      ⊢ iprop(((cred (tallyAt (cell c nS) 0 N) ∗ owes (c : Thread nD τ) O wt) -∗ run c (k ⟨⟩) Q)
          -∗ run c (.op (.enqueueDma (ms.squeeze s' h) (.remote (Dev.tc n : Thread nD τ) (md.squeeze s' h) sS hsc) sR hsrc hdst hsem) k) Q) := by
  subst hn hS hR
  have hset (κ : Kind) (sp : Space) (m : Memref sig κ sp s e) : (m.squeeze s' h).view.set = m.view.set := View.set_reshape _ h.numel_eq
  have e₁ (f) (hf : ms.view.read (Elt F) f = v) :
      ((ms.squeeze s' h).view.loc (c : Thread nD τ) ↦[(ms.squeeze s' h).view.set]{q} f : sProp 𝕄) ⊢ (sched X W).payload (cell c nS) r₁ false := by
    refine .trans ?_ hp₁
    unfold owns
    iintro H
    iexists f; isplitr
    · ipureintro; exact hf
    · rw [hset]; iexact H
  have e₂ (f) (hf : ms.view.read (Elt F) f = v) (g) :
      (iprop(((md.squeeze s' h).view.loc (n : Thread nD τ) ↦[(md.squeeze s' h).view.set]{fullShare}
        (md.squeeze s' h).view.write (Elt F) g ((ms.squeeze s' h).view.read (Elt F) f) Finset.univ) ∗ P) : sProp 𝕄)
        ⊢ (sched X W).payload (cell n nR) r₂ false := by
    refine .trans ?_ hp₂
    unfold owns
    have hw := (read_write_reshape ms.view md.view h.numel_eq f g).trans hf
    iintro ⟨H, HP⟩
    isplitl [H]
    · iexists _; isplitr
      rotate_left
      · rw [hset]; iexact H
      · ipureintro; exact hw
    · iexact HP
  unfold owns
  iintro ⟨#HI₁, #HI₂, ⟨%f, %hf, Hs⟩, ⟨%w, ⟨%g, %hg, Hd⟩⟩, HP, HO, Ht₁, #Hr₁, Ht₂, #Hr₂⟩ Hk
  iapply (Rounds.wp_send_pointsTo_with Variants.none ER (sched X W) (c : Thread nD τ) none (src := ms.squeeze s' h) (dst := md.squeeze s' h) (sS := semN nS) (sem := semN nR)
    (c' := (Dev.tc n : Thread nD τ)) (q := q) (fs := f) (fd := g) (F := P) (κ₁ := κ₁) (κ₂ := κ₂) (r₁ := r₁) (r₂ := r₂) (d₁ := false) (d₂ := false) hd₁ hd₂ i 0 N hN hk₁ hk₂
    O hO (e₁ f hf) (e₂ f hf g)) $$ [Hs Hd HP HO Ht₁ Ht₂]
  · isplitr; · iexact HI₁
    isplitr; · iexact HI₂
    isplitl [Hs]; · rw [hset]; iexact Hs
    isplitl [Hd HP]
    · isplitl [Hd]; · rw [hset]; iexact Hd
      iexact HP
    isplitl [HO]; · iexact HO
    isplitl [Ht₁]; · iexact Ht₁
    isplitr; · iexact Hr₁
    isplitl [Ht₂]; · iexact Ht₂
    iexact Hr₂
  · iexact Hk

end Slice

end Cert.KernelIdeal.RS

end
-- ==== Proof.Steps.lean ====
/-
  The kernel's operations, one lemma each, in terms of what the protocol hands around.

  Every lemma is for a step in general. The tokens and credits of a class are kept as one conjunction over the steps still
  to come, of which an operation takes the first.
-/
module

public import proofs.«01_k».proof.Proof.Slots
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Steps

variable (X : Dev nD → Vec F S4096x256 .f32) (W : Dev nD → Vec F S256x8192 .f32) (K : Dev nD × Fin 38 → ℕ)

/-- What everyone knows: every cell follows the schedule and is at round 0 or later; the levels. -/
def recs : sProp 𝕄 :=
  iprop((bigSep Finset.univ fun p : Dev nD × Fin 38 => cellInv ER (sched X W) (K p) (cell p.1 p.2.val))
    ∗ (bigSep Finset.univ fun p : Dev nD × Fin 38 => reached ER (cell p.1 p.2.val) 0) ∗ levAts idx lev)

instance recs_persistent : BI.Persistent (recs X W K) := by unfold recs; infer_instance

theorem recs_inv (d : Dev nD) {n : ℕ} (hn : n < 38) : recs X W K ⊢ cellInv ER (sched X W) (K (d, ⟨n, hn⟩)) (cell d n) := by
  unfold recs
  iintro ⟨H, -, -⟩
  iapply (show (bigSep Finset.univ fun p : Dev nD × Fin 38 => cellInv ER (sched X W) (K p) (cell p.1 p.2.val)) ⊢ cellInv ER (sched X W) (K (d, ⟨n, hn⟩)) (cell d n) from
    bigSep_elim (Finset.mem_univ (d, (⟨n, hn⟩ : Fin 38)))); iexact H
theorem recs_start (d : Dev nD) {n : ℕ} (hn : n < 38) : recs X W K ⊢ reached ER (cell d n) 0 := by
  unfold recs
  iintro ⟨-, H, -⟩
  iapply (show (bigSep Finset.univ fun p : Dev nD × Fin 38 => (reached ER (cell p.1 p.2.val) 0 : sProp 𝕄)) ⊢ (reached ER (cell d n) 0 : sProp 𝕄) from
    bigSep_elim (Finset.mem_univ (d, (⟨n, hn⟩ : Fin 38)))); iexact H
theorem recs_lev : recs X W K ⊢ (levAts idx lev : sProp 𝕄) := by
  unfold recs; iintro ⟨-, -, H⟩; iexact H

/-- What `c` owes, whatever it has waited for. -/
def owing (c : Dev nD) (O : CellTallies nD τ sig ℕ) : sProp 𝕄 := iprop(∃ w, owes (c : Thread nD τ) O w)

variable {α : Type}

/-- A wait for a whole round of one of the device's cells. -/
theorem run_wait (c : Dev nD) {n r i u : ℕ} (hn : n < 38) (h2 : n ≠ 2) (hr : r < roundsOf c n) {w : TpuEff nD τ sig (Elt F) Λ₀ .tc PUnit} {sm : SemLoc sig}
    (hs : sm = semN n) (hw : ∀ Q : PUnit → sProp 𝕄, wpE (defs₀ (F := F)) Variants.none (c : Thread nD τ) none Set.univ w Q = waitSpec (c : Thread nD τ) Set.univ sm u Q)
    (hu : u = unitsOf n) {O : CellTallies nD τ sig ℕ} (hm : (levAts idx lev : sProp 𝕄) ⊢ MayWait (c : Thread nD τ) (semN n) i O)
    {k : PUnit → KProg F α} {Q : α → sProp 𝕄} :
    iprop(recs X W K ∗ cred (tallyAt (cell c n) i (unitsOf n)) ∗ owing c O ∗ atPos ER (cell c n) r ∅ 0)
      ⊢ iprop((owing c O ∗ atPos ER (cell c n) (r + 1) ∅ 0 ∗ reached ER (cell c n) (r + 1) ∗ payOf X W c n r false -∗ run c (k ⟨⟩) Q)
        -∗ run c (.op w k) Q) := by
  subst hs hu
  unfold owing
  iintro ⟨#HR, Hc, ⟨%wt, HO⟩, Hp⟩ Hk
  iapply (Rounds.wp_wait_rest_token Variants.none ER (sched X W) (c : Thread nD τ) none (κ := K (c, ⟨n, hn⟩)) hw (Set.mem_univ _) i (O := O) (W := wt) (R := r) (m := 0) (T := ∅)
    (by rw [Nat.zero_add]; exact (expect_cell X W c hn h2 hr).symm)) $$ [Hc HO Hp]
  · isplitr; · iapply (recs_inv X W K c hn); iexact HR
    isplitl [Hc]; · iexact Hc
    isplitl [HO]; · iexact HO
    isplitr; · iapply hm; iapply (recs_lev X W K); iexact HR
    iexact Hp
  iintro ⟨HO, Hp, Hr, HP⟩
  iapply Hk
  isplitl [HO]; · iexists _; iexact HO
  isplitl [Hp]; · iexact Hp
  isplitl [Hr]; · iexact Hr
  iapply (Entails.of_eq (rest_cell X W c hn h2 hr)); iexact HP

/-- A signal of one unit. -/
theorem run_signal (c d n' : Dev nD) (hn' : n' = d) {n r : ℕ} {u : ℤ} (hn : n < 38) (b : Bool) {sem : Sem sig} (hs : SemLoc.reg sem = semN n) (hu : u = ((1 : ℕ) : ℤ)) (h3 : n < 3)
    (hd : b ∈ (sched X W).duties (cell d n) r) (i : ℕ) {O₀ : CellTallies nD τ sig ℕ} (O : CellTallies nD τ sig ℕ) (hO : O₀ = O + tallyAt (cell d n) i 1)
    {k : PUnit → KProg F α} {Q : α → sProp 𝕄} :
    iprop(recs X W K ∗ owing c O₀ ∗ dutyTok ER (cell d n) r b ∗ payOf X W d n r b ∗ reached ER (cell d n) r)
      ⊢ iprop((owing c O -∗ run c (k ⟨⟩) Q) -∗ run c (.op (.semSignal (Dev.tc n' : Thread nD τ) sem u) k) Q) := by
  subst hn' hu
  have ha := amount_cell X W n' hn r b
  rw [unitsOf, if_pos h3] at ha
  have hp := payload_cell X W n' hn r b
  have hi := recs_inv X W K n' hn
  rw [← hp]
  have hc : cell n' n = ((n' : Thread nD τ), SemLoc.reg sem) := by rw [hs]
  clear hp
  rw [hc] at hd ha hi hO ⊢
  unfold owing
  iintro ⟨#HR, ⟨%wt, HO⟩, Ht, Hp, #Hr⟩ Hk
  iapply (Rounds.wp_signal Variants.none ER (sched X W) (c : Thread nD τ) none (dst := (n' : Thread nD τ)) (κ := K (n', ⟨n, hn⟩)) hd ha i O hO) $$ [HO Ht Hp]
  · isplitr; · iapply hi; iexact HR
    isplitl [HO]; · iexact HO
    isplitl [Ht]; · iexact Ht
    isplitl [Hp]; · iexact Hp
    iexact Hr
  iintro HO
  iapply Hk
  iexists _; iexact HO

/-! ## What is kept, by step -/

/-- Round positions before landing `m`, transfer `m` and credit `m`; a transfer out also has the credit of its own that
    says the slot may be reused. -/
abbrev recvPos (c : Dev nD) (m : ℕ) : sProp 𝕄 := atPos ER (cell c (5 + m % 2)) (m / 2) ∅ 0
abbrev sendFree (c : Dev nD) (m : ℕ) : sProp 𝕄 := atPos ER (cell c (3 + m % 2)) (m / 2) ∅ 0
abbrev sendOut (c : Dev nD) (m : ℕ) : sProp 𝕄 := iprop(sendFree (F := F) c m ∗ cred (tallyAt (cell c (3 + m % 2)) 0 NBlk))
abbrev credPos (c : Dev nD) (m : ℕ) : sProp 𝕄 := atPos ER (cell c (m % 2)) (m / 2 - 1) ∅ 0

/-- The tokens for the transfer of step `s` (at the target and at home), for the credit of step `s` and for the maxima. -/
abbrev recvTok (c : Dev nD) (s : ℕ) : sProp 𝕄 := dutyTok ER (cell (nxt c) (5 + s % 2)) (s / 2) false
abbrev sendTok (c : Dev nD) (s : ℕ) : sProp 𝕄 := dutyTok ER (cell c (3 + s % 2)) (s / 2) false
abbrev credTok (c : Dev nD) (s : ℕ) : sProp 𝕄 := dutyTok ER (cell (prv c) (s % 2)) (s / 2 - 1) false
abbrev rowTok (c : Dev nD) (i : ℕ) : sProp 𝕄 := dutyTok ER (cell (hop c i) (22 + c.val)) 0 false
abbrev bsTok (c : Dev nD) (i : ℕ) : sProp 𝕄 := dutyTok ER (cell c (7 + i)) 0 false

/-- The credits a device waits with: for landing `s` and for credit `s`. -/
abbrev recvCred (c : Dev nD) (s : ℕ) : sProp 𝕄 := cred (tallyAt (cell c (5 + s % 2)) s NBlk)
abbrev credCred (c : Dev nD) (s : ℕ) : sProp 𝕄 := cred (tallyAt (cell c (s % 2)) s 1)

/-- A class of these from `a` up to `b`, and its first one taken out. -/
abbrev upTo (A : ℕ → sProp 𝕄) (a b : ℕ) : sProp 𝕄 := bigSep (Finset.Ico a b) A

theorem upTo_take (A : ℕ → sProp 𝕄) {a b : ℕ} (h : a < b) : upTo A a b ⊢ iprop(A a ∗ upTo A (a + 1) b) :=
  Entails.of_eq (bigSep_Ico_succ_bot h A)

theorem blkAt_congr (M : Memref sig .tc .vmem S2x256x8192 .f32) (c : Dev nD) {k k' : ℕ} (h : k % 2 = k' % 2) (v : Vec F S1x256x8192 .f32) :
    blkAt M c k v = blkAt M c k' v := by
  have key (j j' : ℕ) (e : j = j') (hj : ∀ a, (![j, 0, 0] : Fin 3 → ℕ) a + S1x256x8192.size a ≤ S2x256x8192.size a)
      (hj' : ∀ a, (![j', 0, 0] : Fin 3 → ℕ) a + S1x256x8192.size a ≤ S2x256x8192.size a) :
      (owns (c : Thread nD τ) (M.slice (Rect.unit ![j, 0, 0] S1x256x8192.size hj) (fun _ => rfl)) fullShare v : sProp 𝕄)
        = owns (c : Thread nD τ) (M.slice (Rect.unit ![j', 0, 0] S1x256x8192.size hj') (fun _ => rfl)) fullShare v := by
    subst e; rfl
  exact key _ _ h _ _
theorem blkAny_congr (M : Memref sig .tc .vmem S2x256x8192 .f32) (c : Dev nD) {k k' : ℕ} (h : k % 2 = k' % 2) : blkAny (F := F) M c k = blkAny M c k' := by
  unfold blkAny; simp only [blkAt_congr M c h]

theorem blkAny_intro (M : Memref sig .tc .vmem S2x256x8192 .f32) (c : Dev nD) (k : ℕ) (v : Vec F S1x256x8192 .f32) : blkAt M c k v ⊢ blkAny (F := F) M c k := by
  unfold blkAny; iintro H; iexists v; iexact H

/-! What the schedule hands out at each class of cell. -/

theorem pay_send (c : Dev nD) (s r : ℕ) : payOf X W c (3 + s % 2) r false = blkAny sendM c s := by
  unfold payOf
  rw [if_neg (by omega), if_neg (by omega), if_pos (by omega)]
  exact blkAny_congr _ _ (by omega)
theorem pay_recv (c : Dev nD) (s : ℕ) : payOf X W c (5 + s % 2) (s / 2) false = recvPay X W c s := by
  unfold payOf
  rw [if_neg (by omega), if_neg (by omega), if_neg (by omega), if_pos (by omega)]
  exact congrArg _ (by omega)
theorem pay_credit (c : Dev nD) {s : ℕ} (hs : 2 ≤ s) : payOf X W c (s % 2) (s / 2 - 1) false
    = iprop(blkAny recvM (nxt c) s ∗ reached ER (cell (nxt c) (5 + s % 2)) (s / 2)) := by
  unfold payOf
  rw [if_neg (by omega), if_pos (by omega)]
  unfold creditPay
  rw [blkAny_congr recvM (nxt c) (k := s % 2) (k' := s) (by omega), show s / 2 - 1 + 1 = s / 2 by omega]
theorem pay_bsend (c : Dev nD) {i : ℕ} (hi : i < 15) : payOf X W c (7 + i) 0 false = rowAt c c (pieceShare i) (peak X W c) := by
  unfold payOf
  rw [if_neg (by omega), if_neg (by omega), if_neg (by omega), if_neg (by omega), if_pos (by omega), show 7 + i - 7 = i by omega]
theorem pay_row (d c : Dev nD) : payOf X W d (22 + c.val) 0 false = rowAt d c fullShare (peak X W c) := by
  have h : c.val < 16 := c.isLt
  have e : hop 0 (22 + c.val - 22) = c := Fin.ext (by rw [hop_val]; show (0 + (22 + c.val - 22)) % 16 = c.val; omega)
  unfold payOf
  rw [if_neg (by omega), if_neg (by omega), if_neg (by omega), if_neg (by omega), if_neg (by omega), e]

theorem mem_duties (c : Dev nD) {n r : ℕ} (hn : n < 38) (h2 : n ≠ 2) (hr : r < roundsOf c n) : false ∈ (sched X W).duties (cell c n) r := by
  rw [duties_cell X W c hn h2 hr]; exact Finset.mem_singleton_self _

theorem rounds_send (c : Dev nD) {s : ℕ} (hs : s < 15) : s / 2 < roundsOf c (3 + s % 2) := by
  unfold roundsOf; (repeat' split) <;> omega
theorem rounds_recv (c : Dev nD) {s : ℕ} (hs : s < 15) : s / 2 < roundsOf c (5 + s % 2) := by
  unfold roundsOf; (repeat' split) <;> omega
theorem rounds_credit (c : Dev nD) {s : ℕ} (h2 : 2 ≤ s) (hs : s < 15) : s / 2 - 1 < roundsOf c (s % 2) := by
  unfold roundsOf; (repeat' split) <;> omega
theorem rounds_bsend (c : Dev nD) {i : ℕ} (hi : i < 15) : 0 < roundsOf c (7 + i) := by
  unfold roundsOf; (repeat' split) <;> omega
theorem rounds_row (d c : Dev nD) (h : c ≠ d) : 0 < roundsOf d (22 + c.val) := by
  have h1 : c.val < 16 := c.isLt
  have h2 : c.val ≠ d.val := fun e => h (Fin.ext e)
  unfold roundsOf; (repeat' split) <;> omega

theorem units_send (s : ℕ) : unitsOf (3 + s % 2) = NBlk := by unfold unitsOf; rw [if_neg (by omega), if_pos (by omega)]
theorem units_recv (s : ℕ) : unitsOf (5 + s % 2) = NBlk := by unfold unitsOf; rw [if_neg (by omega), if_pos (by omega)]
theorem units_credit (s : ℕ) : unitsOf (s % 2) = 1 := by unfold unitsOf; rw [if_pos (by omega)]
theorem units_bsend {i : ℕ} (hi : i < 15) : unitsOf (7 + i) = NRow := by unfold unitsOf; rw [if_neg (by omega), if_neg (by omega)]
theorem units_row (j : ℕ) : unitsOf (22 + j) = NRow := by unfold unitsOf; rw [if_neg (by omega), if_neg (by omega)]

/-! ## The operations of the ring -/

/-- The block of step `s` sent on. -/
theorem step_send (c : Dev nD) {s : ℕ} (hs : s < 15) (b o : ℕ) (n' : Dev nD) (hn' : n' = nxt c) {sS sR : SemLoc sig} (hS : sS = semN (3 + s % 2)) (hR : sR = semN (5 + s % 2))
    {hsc : ((recvM.slice (blkR s) (fun _ => rfl)).squeeze S256x8192 squeezes_S1x256x8192_S256x8192).view.ref.isScScratch = false}
    {hsrc : ((sendM.slice (blkR s) (fun _ => rfl)).squeeze S256x8192 squeezes_S1x256x8192_S256x8192).view.WordExact}
    {hdst : ((recvM.slice (blkR s) (fun _ => rfl)).squeeze S256x8192 squeezes_S1x256x8192_S256x8192).view.WordExact}
    {hsem : DmaTarget.Typed .vmem sR (.remote (Dev.tc n' : Thread nD τ) ((recvM.slice (blkR s) (fun _ => rfl)).squeeze S256x8192 squeezes_S1x256x8192_S256x8192) sS hsc)}
    {k : PUnit → KProg F α} {Q : α → sProp 𝕄} :
    iprop(recs X W K ∗ owing c (debt c s b o) ∗ blkAt sendM c s (carry X W s c) ∗ blkAny recvM (nxt c) s ∗ bundle (hop c (16 - s)) (s + 1)
        ∗ reached ER (cell c (s % 2)) (s / 2) ∗ upTo (sendTok c) s 15 ∗ upTo (recvTok c) s 15 ∗ sendFree c s
        ∗ reached ER (cell c (3 + s % 2)) (s / 2) ∗ reached ER (cell (nxt c) (5 + s % 2)) (s / 2))
      ⊢ iprop((owing c (debt c (s + 1) b o) ∗ upTo (sendTok c) (s + 1) 15 ∗ upTo (recvTok c) (s + 1) 15 ∗ sendOut c s -∗ run c (k ⟨⟩) Q)
        -∗ run c (.op (.enqueueDma ((sendM.slice (blkR s) (fun _ => rfl)).squeeze S256x8192 squeezes_S1x256x8192_S256x8192)
            (.remote (Dev.tc n' : Thread nD τ) ((recvM.slice (blkR s) (fun _ => rfl)).squeeze S256x8192 squeezes_S1x256x8192_S256x8192) sS hsc) sR hsrc hdst hsem) k) Q) := by
  have hN : ((recvM.slice (blkR s) (fun _ => rfl)).squeeze S256x8192 squeezes_S1x256x8192_S256x8192).view.amount (semN (5 + s % 2)) = NBlk := by
    rw [semN_dma (by omega) (by omega)]
  have hp₁ : owns (c : Thread nD τ) (sendM.slice (blkR s) (fun _ => rfl)) fullShare (carry X W s c) ⊢ (sched X W).payload (cell c (3 + s % 2)) (s / 2) false := by
    rw [payload_cell X W c (by omega), pay_send]; exact blkAny_intro sendM c s (carry X W s c)
  have hp₂ : iprop(owns (nxt c : Thread nD τ) (recvM.slice (blkR s) (fun _ => rfl)) fullShare (carry X W s c)
      ∗ (bundle (F := F) (hop c (16 - s)) (s + 1) ∗ reached ER (cell c (s % 2)) (s / 2))) ⊢ (sched X W).payload (cell (nxt c) (5 + s % 2)) (s / 2) false := by
    rw [payload_cell X W (nxt c) (by omega), pay_recv]; unfold recvPay blkAt
    rw [prv_nxt, hop_hop, show 1 + (15 - s) = 16 - s by omega]
  have h3 : 3 + s % 2 < 38 := by omega
  have h5 : 5 + s % 2 < 38 := by omega
  unfold owing
  iintro ⟨#HR, ⟨%wt, HO⟩, Hs, Hd, HB, #Hrc, HtS, HtR, Hf, #HrS, #HrR⟩ Hk
  ihave HtS := (upTo_take (sendTok c) hs) $$ HtS
  ihave HtR := (upTo_take (recvTok c) hs) $$ HtR
  icases HtS with ⟨HtS, HtS'⟩
  icases HtR with ⟨HtR, HtR'⟩
  unfold blkAny blkAt
  iapply (run_send c X W (nxt c) n' hn' (ms := sendM.slice (blkR s) (fun _ => rfl)) (md := recvM.slice (blkR s) (fun _ => rfl)) (3 + s % 2) (5 + s % 2) hS hR
    (K (c, ⟨3 + s % 2, h3⟩)) (K (nxt c, ⟨5 + s % 2, h5⟩)) (s / 2) (s / 2) NBlk s fullShare (carry X W s c)
    iprop(bundle (F := F) (hop c (16 - s)) (s + 1) ∗ reached ER (cell c (s % 2)) (s / 2))
    (mem_duties X W c (by omega) (by omega) (rounds_send c hs))
    (mem_duties X W (nxt c) (by omega) (by omega) (rounds_recv (nxt c) hs))
    hN (by rw [amount_cell X W c (by omega), units_send]) (by rw [amount_cell X W (nxt c) (by omega), units_recv])
    (debt c (s + 1) b o) (debt_send c b o hs) hp₁ hp₂) $$ [Hs Hd HB HO HtS HtR]
  · isplitr; · iapply (recs_inv X W K c h3); iexact HR
    isplitr; · iapply (recs_inv X W K (nxt c) h5); iexact HR
    isplitl [Hs]; · iexact Hs
    isplitl [Hd]; · iexact Hd
    isplitl [HB]
    · isplitl [HB]; · iexact HB
      iexact Hrc
    isplitl [HO]; · iexact HO
    isplitl [HtS]; · iexact HtS
    isplitr; · iexact HrS
    isplitl [HtR]; · iexact HtR
    iexact HrR
  iintro ⟨Hc, HO⟩
  iapply Hk
  isplitl [HO]; · iexists _; iexact HO
  isplitl [HtS']; · iexact HtS'
  isplitl [HtR']; · iexact HtR'
  isplitl [Hf]; · iexact Hf
  iexact Hc

/-- A wait for a transfer. -/
theorem wait_dma (c : Dev nD) {n r i : ℕ} (hn : n < 38) (h2 : n ≠ 2) (hr : r < roundsOf c n) {κ' : Kind} {b : Ref sig κ'} {s : Shape} {e : EltTy} {sem : DmaSem sig}
    {hk : (c : Thread nD τ).2 = .tc ∨ b.HasMemref s e} (hs : SemLoc.dma sem = semN n) (hN : b.dmaCredit s e = unitsOf n)
    {O : CellTallies nD τ sig ℕ} (hm : (levAts idx lev : sProp 𝕄) ⊢ MayWait (c : Thread nD τ) (semN n) i O)
    {k : PUnit → KProg F α} {Q : α → sProp 𝕄} :
    iprop(recs X W K ∗ cred (tallyAt (cell c n) i (unitsOf n)) ∗ owing c O ∗ atPos ER (cell c n) r ∅ 0)
      ⊢ iprop((owing c O ∗ atPos ER (cell c n) (r + 1) ∅ 0 ∗ reached ER (cell c n) (r + 1) ∗ payOf X W c n r false -∗ run c (k ⟨⟩) Q)
        -∗ run c (.op (.waitDma sem b s e hk) k) Q) :=
  run_wait X W K c hn h2 hr hs (wpE_waitDma_eq Variants.none (c : Thread nD τ) none Set.univ) hN hm

/-- The wait for the landing of step `s`. -/
theorem step_recv (c : Dev nD) {s a b : ℕ} (o : ℕ) (hs : s < 15) (ha : s < a) (hb : s < b) {κ' : Kind} {rf : Ref sig κ'} {sh : Shape} {e : EltTy} {sem : DmaSem sig}
    {hk : (c : Thread nD τ).2 = .tc ∨ rf.HasMemref sh e} (hsem : SemLoc.dma sem = semN (5 + s % 2)) (hN : rf.dmaCredit sh e = NBlk)
    {k : PUnit → KProg F α} {Q : α → sProp 𝕄} :
    iprop(recs X W K ∗ owing c (debt c a b o) ∗ recvPos c s ∗ upTo (recvCred c) s 15)
      ⊢ iprop((owing c (debt c a b o) ∗ recvPos c (s + 2) ∗ upTo (recvCred c) (s + 1) 15 ∗ reached ER (cell c (5 + s % 2)) (s / 2 + 1) ∗ recvPay X W c s
          -∗ run c (k ⟨⟩) Q) -∗ run c (.op (.waitDma sem rf sh e hk) k) Q) := by
  have h5 : 5 + s % 2 < 38 := by omega
  have hl : lev (cell c (5 + s % 2)) s = 2 * s + 3 := by
    rw [lev_cell _ h5, if_neg (by omega), if_neg (by omega), if_pos (by omega)]
  have e1 : (s + 2) % 2 = s % 2 := by omega
  have e2 : (s + 2) / 2 = s / 2 + 1 := by omega
  have hu := units_recv s
  have hm : (levAts idx lev : sProp 𝕄) ⊢ MayWait (c : Thread nD τ) _ s (debt c a b o) :=
    mayWait_debt c o h5 (by omega) (by omega) (by omega) (by omega)
  iintro ⟨#HR, HO, Hp, Hc⟩ Hk
  ihave Hc := (upTo_take (recvCred c) hs) $$ Hc
  icases Hc with ⟨Hc, Hc'⟩
  iapply (wait_dma X W K c (i := s) h5 (by omega) (rounds_recv c hs) hsem (hN.trans hu.symm) hm) $$ [Hc HO Hp]
  · isplitr; · iexact HR
    isplitl [Hc]; · rw [hu]; iexact Hc
    isplitl [HO]; · iexact HO
    iexact Hp
  iintro ⟨HO, Hp, Hr, HP⟩
  ihave HP := (Entails.of_eq (pay_recv X W c s)) $$ HP
  iapply Hk
  isplitl [HO]; · iexact HO
  isplitl [Hp]; · unfold recvPos; rw [e1, e2]; iexact Hp
  isplitl [Hc']; · iexact Hc'
  isplitl [Hr]; · iexact Hr
  iexact HP

/-- The wait for the transfer of step `s` to have been read: the slot is the sender's again. -/
theorem step_sent (c : Dev nD) {s : ℕ} (a b o : ℕ) (hs : s < 15) {κ' : Kind} {rf : Ref sig κ'} {sh : Shape} {e : EltTy} {sem : DmaSem sig}
    {hk : (c : Thread nD τ).2 = .tc ∨ rf.HasMemref sh e} (hsem : SemLoc.dma sem = semN (3 + s % 2)) (hN : rf.dmaCredit sh e = NBlk)
    {k : PUnit → KProg F α} {Q : α → sProp 𝕄} :
    iprop(recs X W K ∗ owing c (debt c a b o) ∗ sendOut c s)
      ⊢ iprop((owing c (debt c a b o) ∗ sendFree c (s + 2) ∗ reached ER (cell c (3 + s % 2)) (s / 2 + 1) ∗ blkAny sendM c s -∗ run c (k ⟨⟩) Q)
        -∗ run c (.op (.waitDma sem rf sh e hk) k) Q) := by
  have h3 : 3 + s % 2 < 38 := by omega
  have hl : lev (cell c (3 + s % 2)) 0 = 0 := by
    rw [lev_cell _ h3, if_neg (by omega), if_neg (by omega), if_neg (by omega), if_neg (by omega)]
  have e1 : (s + 2) % 2 = s % 2 := by omega
  have e2 : (s + 2) / 2 = s / 2 + 1 := by omega
  have hu := units_send s
  have hm : (levAts idx lev : sProp 𝕄) ⊢ MayWait (c : Thread nD τ) _ 0 (debt c a b o) :=
    mayWait_debt c o h3 (by omega) (by omega) (by omega) (by omega)
  iintro ⟨#HR, HO, ⟨Hp, Hc⟩⟩ Hk
  iapply (wait_dma X W K c (i := 0) h3 (by omega) (rounds_send c hs) hsem (hN.trans hu.symm) hm) $$ [Hc HO Hp]
  · isplitr; · iexact HR
    isplitl [Hc]; · rw [hu]; iexact Hc
    isplitl [HO]; · iexact HO
    iexact Hp
  iintro ⟨HO, Hp, Hr, HP⟩
  ihave HP := (Entails.of_eq (pay_send X W c s (s / 2))) $$ HP
  iapply Hk
  isplitl [HO]; · iexact HO
  isplitl [Hp]; · unfold sendFree; rw [e1, e2]; iexact Hp
  isplitl [Hr]; · iexact Hr
  iexact HP

/-- The credit for step `b`, given to the device before: the receive slot, now empty. -/
theorem step_give (c : Dev nD) {b : ℕ} (a o : ℕ) (h2 : 2 ≤ b) (hb : b < 15) (n' : Dev nD) (hn' : n' = prv c) {sem : Sem sig} {u : ℤ} (hsem : SemLoc.reg sem = semN (b % 2))
    (hu : u = ((1 : ℕ) : ℤ)) {k : PUnit → KProg F α} {Q : α → sProp 𝕄} :
    iprop(recs X W K ∗ owing c (debt c a b o) ∗ upTo (credTok c) b 15 ∗ blkAny recvM c b ∗ reached ER (cell c (5 + b % 2)) (b / 2)
        ∗ reached ER (cell (prv c) (b % 2)) (b / 2 - 1))
      ⊢ iprop((owing c (debt c a (b + 1) o) ∗ upTo (credTok c) (b + 1) 15 -∗ run c (k ⟨⟩) Q)
        -∗ run c (.op (.semSignal (Dev.tc n' : Thread nD τ) sem u) k) Q) := by
  have h0 : b % 2 < 38 := by omega
  iintro ⟨#HR, HO, Ht, Hb, #Hr, #Hr'⟩ Hk
  ihave Ht := (upTo_take (credTok c) hb) $$ Ht
  icases Ht with ⟨Ht, Ht'⟩
  iapply (run_signal X W K c (prv c) n' hn' h0 (r := b / 2 - 1) false hsem hu (by omega) (mem_duties X W (prv c) h0 (by omega) (rounds_credit (prv c) h2 hb)) b
    (debt c a (b + 1) o) (debt_credit c a o hb)) $$ [HO Ht Hb]
  · isplitr; · iexact HR
    isplitl [HO]; · iexact HO
    isplitl [Ht]; · iexact Ht
    isplitl [Hb]
    · rw [pay_credit X W (prv c) h2, nxt_prv]
      isplitl [Hb]; · iexact Hb
      iexact Hr
    iexact Hr'
  iintro HO
  iapply Hk
  isplitl [HO]; · iexact HO
  iexact Ht'

/-- The wait for the credit of step `s`: the next device's receive slot is free. -/
theorem step_take (c : Dev nD) {s a b : ℕ} (o : ℕ) (h2 : 2 ≤ s) (hs : s < 15) (ha : s ≤ a) (hb : s < b) {sem : Sem sig} {u : ℤ} (hsem : SemLoc.reg sem = semN (s % 2))
    (hu : u = ((1 : ℕ) : ℤ)) {k : PUnit → KProg F α} {Q : α → sProp 𝕄} :
    iprop(recs X W K ∗ owing c (debt c a b o) ∗ credPos c s ∗ upTo (credCred c) s 15)
      ⊢ iprop((owing c (debt c a b o) ∗ credPos c (s + 2) ∗ upTo (credCred c) (s + 1) 15 ∗ reached ER (cell c (s % 2)) (s / 2)
          ∗ blkAny recvM (nxt c) s ∗ reached ER (cell (nxt c) (5 + s % 2)) (s / 2) -∗ run c (k ⟨⟩) Q)
        -∗ run c (.op (.semWait sem u) k) Q) := by
  subst hu
  have h0 : s % 2 < 38 := by omega
  have hl : lev (cell c (s % 2)) s = 2 * s + 2 := by
    rw [lev_cell _ h0, if_neg (by omega), if_pos (by omega)]
  have e1 : (s + 2) % 2 = s % 2 := by omega
  have e2 : (s + 2) / 2 - 1 = s / 2 - 1 + 1 := by omega
  have e3 : s / 2 - 1 + 1 = s / 2 := by omega
  have hu := units_credit s
  have hm : (levAts idx lev : sProp 𝕄) ⊢ MayWait (c : Thread nD τ) _ s (debt c a b o) :=
    mayWait_debt c o h0 (by omega) (by omega) (by omega) (by omega)
  iintro ⟨#HR, HO, Hp, Hc⟩ Hk
  ihave Hc := (upTo_take (credCred c) hs) $$ Hc
  icases Hc with ⟨Hc, Hc'⟩
  iapply (run_wait X W K c (i := s) h0 (by omega) (rounds_credit c h2 hs) hsem (wpE_semWait_eq Variants.none (c : Thread nD τ) none Set.univ) hu.symm
    hm) $$ [Hc HO Hp]
  · isplitr; · iexact HR
    isplitl [Hc]; · rw [hu]; iexact Hc
    isplitl [HO]; · iexact HO
    iexact Hp
  rw [e3]
  iintro ⟨HO, Hp, Hr, HP⟩
  ihave HP := (Entails.of_eq (pay_credit X W c h2)) $$ HP
  icases HP with ⟨HP, HP'⟩
  iapply Hk
  isplitl [HO]; · iexact HO
  isplitl [Hp]; · unfold credPos; rw [e1, e2, e3]; iexact Hp
  isplitl [Hc']; · iexact Hc'
  isplitl [Hr]; · iexact Hr
  isplitl [HP]; · iexact HP
  iexact HP'

end Steps

end Cert.KernelIdeal.RS

end
-- ==== Proof.Mid.lean ====
/-
  One step on the ring: the device's inputs read, what has landed added to their product, and the sum sent on.
-/
module

public import proofs.«01_k».proof.Proof.Steps
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Mid

variable (X : Dev nD → Vec F S4096x256 .f32) (W : Dev nD → Vec F S256x8192 .f32) (K : Dev nD × Fin 38 → ℕ) {α : Type}

/-! ## Reading and writing the whole of a buffer -/

theorem run_read {s : Shape} {e : EltTy} (c : Dev nD) {cs : CoreSpace} {m : Memref sig .tc cs s e} {r : Rect s} {hl : m.view.LoadsAt r}
    {k : (r.shape.Idx → Elt F e) → KProg F α} {Q : α → sProp 𝕄} (q : PosShare TreeShare) (v : s.Idx → Elt F e)
    (u : r.shape.Idx → Elt F e) (hu : ∀ i, v (r.emb i) = u i) :
    (owns (c : Thread nD τ) m q v : sProp 𝕄)
      ⊢ iprop((owns (c : Thread nD τ) m q v -∗ run c (k u) Q) -∗ run c (.op (.load m r hl) k) Q) := by
  have hS : (m.access r).set ⊆ m.view.set := by
    intro i hi
    rw [View.set, Finset.mem_map] at hi
    obtain ⟨x, -, rfl⟩ := hi
    exact Finset.mem_map_of_mem m.view.emb (Finset.mem_univ _)
  unfold owns
  iintro ⟨%f, %hf, H⟩ Hk
  iapply (wp_load_rect Variants.none (c : Thread nD τ) none Set.univ (m := m) (r := r) (f := f) (S := m.view.set) hS) $$ H
  iintro H
  have hv : (m.access r).read (Elt F) f = u := by rw [← funext hu, ← hf]; rfl
  rw [hv]
  iapply Hk
  iexists f; isplitr
  · ipureintro; exact hf
  · iexact H

theorem emb_all {s : Shape} {off : Fin s.rank → ℕ} (h : off = fun _ => 0) (inb : ∀ a, off a + s.size a ≤ s.size a) (i : s.Idx) :
    (Rect.unit off s.size inb).emb i = i := by
  subst h
  funext a
  exact Fin.ext (by rw [Rect.emb_apply]; show 0 + 1 * (i a).val = _; omega)

/-- A device's `x` and `w`, in the buffers the kernel reads them from. -/
abbrev xAt (c : Dev nD) (x : Vec F S4096x256 .f32) : sProp 𝕄 := owns (c : Thread nD τ) (Memref.whole cc0_stg0_0) fullShare x
abbrev wAt (c : Dev nD) (w : Vec F S256x8192 .f32) : sProp 𝕄 := owns (c : Thread nD τ) (Memref.whole cc0_stg1_0) fullShare w

/-- The pieces of these buffers the program names. -/
abbrev xRect (off : Fin 2 → ℕ) (h : ∀ a, off a + S256x256.size a ≤ S4096x256.size a) : Rect S4096x256 := Rect.unit off S256x256.size h
abbrev wRect (h : ∀ a, (![0, 0] : Fin 2 → ℕ) a + S256x8192.size a ≤ S256x8192.size a) : Rect S256x8192 := Rect.unit ![0, 0] S256x8192.size h
abbrev slotRect (k : ℕ) (h : ∀ a, (![k, 0, 0] : Fin 3 → ℕ) a + S1x256x8192.size a ≤ S2x256x8192.size a) : Rect S2x256x8192 := Rect.unit ![k, 0, 0] S1x256x8192.size h

theorem read_x (c b : Dev nD) (x : Vec F S4096x256 .f32) {off : Fin 2 → ℕ} (ho : off = ![b.val * 256, 0]) {hin : ∀ a, off a + S256x256.size a ≤ S4096x256.size a}
    {hl : (Memref.whole cc0_stg0_0 : Memref sig .tc .vmem S4096x256 .f32).view.LoadsAt (xRect off hin).toLoadRect}
    {k : Vec F S256x256 .f32 → KProg F α} {Q : α → sProp 𝕄} :
    xAt c x ⊢ iprop((xAt c x -∗ run c (k (rows b x)) Q) -∗ run c (.op (.load (Memref.whole cc0_stg0_0) (xRect off hin).toLoadRect hl) k) Q) := by
  subst ho
  exact run_read c (m := Memref.whole cc0_stg0_0) (r := rowsR b) fullShare x (rows b x) fun _ => rfl

theorem read_w (c : Dev nD) (w : Vec F S256x8192 .f32) {hin : ∀ a, (![0, 0] : Fin 2 → ℕ) a + S256x8192.size a ≤ S256x8192.size a}
    {hl : (Memref.whole cc0_stg1_0 : Memref sig .tc .vmem S256x8192 .f32).view.LoadsAt (wRect hin).toLoadRect}
    {k : Vec F S256x8192 .f32 → KProg F α} {Q : α → sProp 𝕄} :
    wAt c w ⊢ iprop((wAt c w -∗ run c (k w) Q) -∗ run c (.op (.load (Memref.whole cc0_stg1_0) (wRect hin).toLoadRect hl) k) Q) := by
  have hz : (![0, 0] : Fin 2 → ℕ) = fun _ => 0 := by funext a; fin_cases a <;> rfl
  exact run_read c (m := Memref.whole cc0_stg1_0) (r := wRect hin) fullShare w w fun i => congrArg w (emb_all (s := S256x8192) hz hin i)

/-! ## One step on the ring -/

/-- A slot of a double buffer, as the program names it: `k` is 0 or 1. -/
abbrev slot (M : Memref sig .tc .vmem S2x256x8192 .f32) (k : ℕ) (hin : ∀ a, (![k, 0, 0] : Fin 3 → ℕ) a + S1x256x8192.size a ≤ S2x256x8192.size a) :
    Memref sig .tc .vmem S256x8192 .f32 :=
  (M.slice (Rect.unit ![k, 0, 0] S1x256x8192.size hin) (fun _ => rfl)).squeeze S256x8192 squeezes_S1x256x8192_S256x8192

/-- The places for `c`'s row of maxima that `l` landings have brought it: on the last `l` devices. -/
def got (c : Dev nD) (l : ℕ) : sProp 𝕄 := upTo (fun o => rowAny (F := F) (hop c o) c) (16 - l) 16

theorem got_more (c : Dev nD) {l : ℕ} (hl : l < 15) :
    iprop(got (F := F) c l ∗ bundle (hop c (15 - l)) (l + 1)) ⊢ iprop(got (F := F) c (l + 1) ∗ bundle (hop c (15 - l)) (l + 2)) := by
  unfold got bundle upTo
  rw [bigSep_Ico_succ_bot (by omega : l + 1 < 16), show hop (hop c (15 - l)) (l + 1) = c from (hop_hop c _ _).trans (hop_full c (by omega)),
    show 16 - (l + 1) = 15 - l by omega, show 16 - l = 15 - l + 1 by omega, bigSep_Ico_succ_bot (by omega : 15 - l < 16) fun o => rowAny (F := F) (hop c o) c]
  iintro ⟨Hg, Hr, Hb⟩
  isplitl [Hg Hr]
  · isplitl [Hr]; · iexact Hr
    iexact Hg
  iexact Hb

/-- The first half of the step after landing `l`: the device's own inputs, then what has landed. -/
theorem step_in (c d : Dev nD) {l a b : ℕ} (o : ℕ) (hl : l < 15) (ha : l < a) (hb : l < b) {off : Fin 2 → ℕ} (ho : off = ![d.val * 256, 0])
    {j : ℕ} (hj : j = l % 2) {hin : ∀ a, off a + S256x256.size a ≤ S4096x256.size a} {hi0 : ∀ a, (![0, 0] : Fin 2 → ℕ) a + S256x8192.size a ≤ S256x8192.size a}
    {hl1 : (Memref.whole cc0_stg0_0 : Memref sig .tc .vmem S4096x256 .f32).view.LoadsAt (xRect off hin).toLoadRect}
    {hl2 : (Memref.whole cc0_stg1_0 : Memref sig .tc .vmem S256x8192 .f32).view.LoadsAt (wRect hi0).toLoadRect}
    {κ' : Kind} {rf : Ref sig κ'} {sh : Shape} {e : EltTy} {sem : DmaSem sig}
    {hk : (c : Thread nD τ).2 = .tc ∨ rf.HasMemref sh e} (hsem : SemLoc.dma sem = semN (5 + j)) (hN : rf.dmaCredit sh e = NBlk)
    {hij : ∀ a, (![j, 0, 0] : Fin 3 → ℕ) a + S1x256x8192.size a ≤ S2x256x8192.size a} {hl3 : recvM.view.LoadsAt (slotRect j hij).toLoadRect}
    {k : Vec F S256x256 .f32 → Vec F S256x8192 .f32 → Vec F S1x256x8192 .f32 → KProg F α} {Q : α → sProp 𝕄} :
    iprop(recs X W K ∗ owing c (debt c a b o) ∗ xAt c (X c) ∗ wAt c (W c) ∗ recvPos c l ∗ upTo (recvCred c) l 15 ∗ got (F := F) c l)
      ⊢ iprop((owing c (debt c a b o) ∗ xAt c (X c) ∗ wAt c (W c) ∗ recvPos c (l + 2) ∗ upTo (recvCred c) (l + 1) 15 ∗ got (F := F) c (l + 1)
          ∗ blkAt recvM c l (carry X W l (prv c)) ∗ bundle (F := F) (hop c (15 - l)) (l + 2) ∗ reached ER (cell c (5 + l % 2)) (l / 2 + 1) ∗ reached ER (cell (prv c) (l % 2)) (l / 2)
          -∗ run c (k (rows d (X c)) (W c) (carry X W l (prv c))) Q)
        -∗ run c (.op (.load (Memref.whole cc0_stg0_0) (xRect off hin).toLoadRect hl1) fun vx => .op (.load (Memref.whole cc0_stg1_0) (wRect hi0).toLoadRect hl2) fun vw =>
            .op (.waitDma sem rf sh e hk) fun _ => .op (.load recvM (slotRect j hij).toLoadRect hl3) fun vr => k vx vw vr) Q) := by
  subst hj
  iintro ⟨#HR, HO, Hx, Hw, Hp, Hc, Hg⟩ Hk
  iapply (read_x c d (X c) ho) $$ Hx
  iintro Hx
  iapply (read_w c (W c)) $$ Hw
  iintro Hw
  iapply (step_recv X W K c o hl ha hb hsem hN) $$ [HO Hp Hc]
  · isplitr; · iexact HR
    isplitl [HO]; · iexact HO
    isplitl [Hp]; · iexact Hp
    iexact Hc
  unfold recvPay
  iintro ⟨HO, Hp, Hc, #Hr, Hv, Hb, #Hr'⟩
  ihave Hgb := (got_more c hl) $$ [Hg Hb]
  · isplitl [Hg]; · iexact Hg
    iexact Hb
  icases Hgb with ⟨Hg, Hb⟩
  unfold blkAt
  iapply (run_load c (m := recvM) (r := blkR l) (fun _ => rfl) fullShare (carry X W l (prv c))) $$ Hv
  iintro Hv
  iapply Hk
  isplitl [HO]; · iexact HO
  isplitl [Hx]; · iexact Hx
  isplitl [Hw]; · iexact Hw
  isplitl [Hp]; · iexact Hp
  isplitl [Hc]; · iexact Hc
  isplitl [Hg]; · iexact Hg
  isplitl [Hv]; · iexact Hv
  isplitl [Hb]; · iexact Hb
  isplitr; · iexact Hr
  iexact Hr'

/-- A send slot filled; the program reads it first and makes nothing of what it reads. -/
theorem step_fill (c : Dev nD) (s : ℕ) {j : ℕ} (hj : j = s % 2) {v : Vec F S1x256x8192 .f32} {hij : ∀ a, (![j, 0, 0] : Fin 3 → ℕ) a + S1x256x8192.size a ≤ S2x256x8192.size a}
    {hl : sendM.view.LoadsAt (slotRect j hij).toLoadRect}
    {hx : (sendM.access (slotRect j hij)).Stores Finset.univ}
    {hm : (Finset.univ : Finset (slotRect j hij).shape.Idx) = Finset.univ ∨ ∀ a, (slotRect j hij).stride a = 1}
    {k : PUnit → KProg F α} {Q : α → sProp 𝕄} :
    blkAny (F := F) sendM c s
      ⊢ iprop((blkAt sendM c s v -∗ run c (k ⟨⟩) Q)
        -∗ run c (.op (.load sendM (slotRect j hij).toLoadRect hl) fun _ => .op (.store sendM (slotRect j hij) v Finset.univ hx hm) k) Q) := by
  subst hj
  unfold blkAny blkAt
  iintro ⟨%v₀, Hs⟩ Hk
  iapply (run_load c (m := sendM) (r := blkR s) (fun _ => rfl) fullShare v₀) $$ Hs
  iintro Hs
  iapply (run_store c (m := sendM) (r := blkR s) (fun _ => rfl) v₀) $$ Hs
  iexact Hk

/-- A whole buffer written. -/
theorem write_all {s : Shape} {e : EltTy} (c : Dev nD) {cs : CoreSpace} {m : Memref sig .tc cs s e} {off : Fin s.rank → ℕ} (hz : off = fun _ => 0) {inb : ∀ a, off a + s.size a ≤ s.size a}
    {w : s.Idx → Elt F e} {hx : (m.access (Rect.unit off s.size inb)).Stores Finset.univ}
    {hm : (Finset.univ : Finset (Rect.unit off s.size inb).shape.Idx) = Finset.univ ∨ ∀ a, (Rect.unit off s.size inb).stride a = 1}
    {k : PUnit → KProg F α} {Q : α → sProp 𝕄} (y : s.Idx → Elt F e) :
    (owns (c : Thread nD τ) m fullShare y : sProp 𝕄)
      ⊢ iprop((owns (c : Thread nD τ) m fullShare w -∗ run c (k ⟨⟩) Q) -∗ run c (.op (.store m (Rect.unit off s.size inb) w Finset.univ hx hm) k) Q) := by
  have hS : (m.access (Rect.unit off s.size inb)).setOn Finset.univ ⊆ m.view.set := by
    intro i hi
    rw [View.setOn, Finset.mem_map] at hi
    obtain ⟨x, -, rfl⟩ := hi
    exact Finset.mem_map_of_mem m.view.emb (Finset.mem_univ _)
  unfold owns
  iintro ⟨%f, %hf, H⟩ Hk
  have hw : m.view.read (Elt F) ((m.access (Rect.unit off s.size inb)).write (Elt F) f w Finset.univ) = w := by
    funext i
    have h : m.view.read (Elt F) ((m.access (Rect.unit off s.size inb)).write (Elt F) f w Finset.univ) ((Rect.unit off s.size inb).emb i) = w i :=
      congrFun (View.read_write_univ (v := m.access (Rect.unit off s.size inb)) (Val := Elt F) f w) i
    rwa [emb_all hz inb i] at h
  iapply (wp_store Variants.none (c : Thread nD τ) none Set.univ (m := m) (r := Rect.unit off s.size inb) (Mk := Finset.univ) (f := f) hS) $$ H
  iintro H
  iapply Hk
  iexists _; isplitr
  rotate_left
  · iexact H
  · ipureintro; exact hw

/-- A device's output, in the buffer the kernel writes it to, -/
abbrev outAt (c : Dev nD) (y : Vec F S256x8192 .f32) : sProp 𝕄 := owns (c : Thread nD τ) (Memref.whole cc0_stg2_0) fullShare y

/-- read, -/
theorem read_out (c : Dev nD) (y : Vec F S256x8192 .f32) {hin : ∀ a, (![0, 0] : Fin 2 → ℕ) a + S256x8192.size a ≤ S256x8192.size a}
    {hl : (Memref.whole cc0_stg2_0 : Memref sig .tc .vmem S256x8192 .f32).view.LoadsAt (wRect hin).toLoadRect}
    {k : Vec F S256x8192 .f32 → KProg F α} {Q : α → sProp 𝕄} :
    outAt c y ⊢ iprop((outAt c y -∗ run c (k y) Q) -∗ run c (.op (.load (Memref.whole cc0_stg2_0) (wRect hin).toLoadRect hl) k) Q) := by
  have hz : (![0, 0] : Fin 2 → ℕ) = fun _ => 0 := by funext a; fin_cases a <;> rfl
  exact run_read c (m := Memref.whole cc0_stg2_0) (r := wRect hin) fullShare y y fun i => congrArg y (emb_all (s := S256x8192) hz hin i)

/-- and written, after a read that is not used. -/
theorem write_out (c : Dev nD) (y : Vec F S256x8192 .f32) {v : Vec F S256x8192 .f32} {hin : ∀ a, (![0, 0] : Fin 2 → ℕ) a + S256x8192.size a ≤ S256x8192.size a}
    {hl : (Memref.whole cc0_stg2_0 : Memref sig .tc .vmem S256x8192 .f32).view.LoadsAt (wRect hin).toLoadRect}
    {hx : ((Memref.whole cc0_stg2_0 : Memref sig .tc .vmem S256x8192 .f32).access (wRect hin)).Stores Finset.univ}
    {hm : (Finset.univ : Finset (wRect hin).shape.Idx) = Finset.univ ∨ ∀ a, (wRect hin).stride a = 1}
    {k : PUnit → KProg F α} {Q : α → sProp 𝕄} :
    outAt c y
      ⊢ iprop((outAt c v -∗ run c (k ⟨⟩) Q)
        -∗ run c (.op (.load (Memref.whole cc0_stg2_0) (wRect hin).toLoadRect hl) fun _ => .op (.store (Memref.whole cc0_stg2_0) (wRect hin) v Finset.univ hx hm) k) Q) := by
  have hz : (![0, 0] : Fin 2 → ℕ) = fun _ => 0 := by funext a; fin_cases a <;> rfl
  iintro Hy Hk
  iapply (read_out c y) $$ Hy
  iintro Hy
  iapply (write_all c (m := Memref.whole cc0_stg2_0) hz (w := v) y) $$ Hy
  iexact Hk

/-- The whole array of maxima read. -/
theorem read_max (c : Dev nD) (v : Vec F S16x8x128 .f32) {hin : ∀ a, (![0, 0, 0] : Fin 3 → ℕ) a + S16x8x128.size a ≤ S16x8x128.size a}
    {hl : maxM.view.LoadsAt (Rect.unit ![0, 0, 0] S16x8x128.size hin : Rect S16x8x128).toLoadRect}
    {k : Vec F S16x8x128 .f32 → KProg F α} {Q : α → sProp 𝕄} :
    (owns (c : Thread nD τ) maxM fullShare v : sProp 𝕄)
      ⊢ iprop((owns (c : Thread nD τ) maxM fullShare v -∗ run c (k v) Q) -∗ run c (.op (.load maxM (Rect.unit ![0, 0, 0] S16x8x128.size hin : Rect S16x8x128).toLoadRect hl) k) Q) := by
  have hz : (![0, 0, 0] : Fin 3 → ℕ) = fun _ => 0 := by funext a; fin_cases a <;> rfl
  exact run_read c (m := maxM) (r := Rect.unit ![0, 0, 0] S16x8x128.size hin) fullShare v v fun i => congrArg v (emb_all (s := S16x8x128) hz hin i)

/-- A device's row of the maxima filled, after a read that is not used. -/
theorem row_fill (c : Dev nD) {v : Vec F S1x8x128 .f32} {off : Fin 3 → ℕ} (ho : off = ![c.val, 0, 0]) {hin : ∀ a, off a + S1x8x128.size a ≤ S16x8x128.size a}
    {hl : maxM.view.LoadsAt (Rect.unit off S1x8x128.size hin : Rect S16x8x128).toLoadRect}
    {hx : (maxM.access (Rect.unit off S1x8x128.size hin)).Stores Finset.univ}
    {hm : (Finset.univ : Finset (Rect.unit off S1x8x128.size hin : Rect S16x8x128).shape.Idx) = Finset.univ ∨ ∀ a, (Rect.unit off S1x8x128.size hin : Rect S16x8x128).stride a = 1}
    {k : PUnit → KProg F α} {Q : α → sProp 𝕄} :
    rowAny (F := F) c c
      ⊢ iprop((rowAt c c fullShare v -∗ run c (k ⟨⟩) Q)
        -∗ run c (.op (.load maxM (Rect.unit off S1x8x128.size hin : Rect S16x8x128).toLoadRect hl) fun _ => .op (.store maxM (Rect.unit off S1x8x128.size hin) v Finset.univ hx hm) k) Q) := by
  subst ho
  unfold rowAny rowAt
  iintro ⟨%v₀, Hs⟩ Hk
  iapply (run_load c (m := maxM) (r := rowR c) (fun _ => rfl) fullShare v₀) $$ Hs
  iintro Hs
  iapply (run_store c (m := maxM) (r := rowR c) (fun _ => rfl) v₀) $$ Hs
  iexact Hk

/-- What a device has in hand before step `t + 2`. -/
def midInv (c : Dev nD) (t : ℕ) : sProp 𝕄 :=
  iprop(owing c (debt c (t + 2) (t + 3) 1) ∗ xAt c (X c) ∗ wAt c (W c) ∗ recvPos c (t + 1) ∗ recvPos c (t + 2) ∗ sendOut c t ∗ sendOut c (t + 1)
    ∗ credPos c (t + 2) ∗ credPos c (t + 3) ∗ upTo (sendTok c) (t + 2) 15 ∗ upTo (recvTok c) (t + 2) 15 ∗ upTo (credTok c) (t + 3) 15
    ∗ upTo (recvCred c) (t + 1) 15 ∗ upTo (credCred c) (t + 2) 15 ∗ got (F := F) c (t + 1))

/-- One of the steps 2 to 13: in, add, hand the emptied slot back, wait for a free one, and on. -/
theorem step_mid (c : Dev nD) {t : ℕ} (ht : t < 12) {off : Fin 2 → ℕ} (ho : off = ![(hop c (15 - (t + 2))).val * 256, 0])
    {j i : ℕ} (hj : j = (t + 1) % 2) (hi : i = t % 2) {hin : ∀ a, off a + S256x256.size a ≤ S4096x256.size a} {hi0 : ∀ a, (![0, 0] : Fin 2 → ℕ) a + S256x8192.size a ≤ S256x8192.size a}
    {hl1 : (Memref.whole cc0_stg0_0 : Memref sig .tc .vmem S4096x256 .f32).view.LoadsAt (xRect off hin).toLoadRect}
    {hl2 : (Memref.whole cc0_stg1_0 : Memref sig .tc .vmem S256x8192 .f32).view.LoadsAt (wRect hi0).toLoadRect}
    {κ' κ'' : Kind} {rf : Ref sig κ'} {rf' : Ref sig κ''} {sh sh' : Shape} {e e' : EltTy} {sem sem' : DmaSem sig}
    {hk : (c : Thread nD τ).2 = .tc ∨ rf.HasMemref sh e} {hk' : (c : Thread nD τ).2 = .tc ∨ rf'.HasMemref sh' e'} (hsem : SemLoc.dma sem = semN (5 + j)) (hN : rf.dmaCredit sh e = NBlk)
    (hsem' : SemLoc.dma sem' = semN (3 + i)) (hN' : rf'.dmaCredit sh' e' = NBlk)
    {hij : ∀ a, (![j, 0, 0] : Fin 3 → ℕ) a + S1x256x8192.size a ≤ S2x256x8192.size a} {hl3 : recvM.view.LoadsAt (slotRect j hij).toLoadRect}
    {hii : ∀ a, (![i, 0, 0] : Fin 3 → ℕ) a + S1x256x8192.size a ≤ S2x256x8192.size a} {hl4 : sendM.view.LoadsAt (slotRect i hii).toLoadRect}
    {hx : (sendM.access (slotRect i hii)).Stores Finset.univ}
    {hm : (Finset.univ : Finset (slotRect i hii).shape.Idx) = Finset.univ ∨ ∀ a, (slotRect i hii).stride a = 1}
    {pay : Vec F S256x256 .f32 → Vec F S256x8192 .f32 → Vec F S1x256x8192 .f32 → Vec F S1x256x8192 .f32} (hpay : ∀ x w v, pay x w v = k0_pay5 x w v)
    {n₁ n₂ : Dev nD} (hn₁ : n₁ = prv c) (hn₂ : n₂ = nxt c) {gs ws : Sem sig} {u u' : ℤ} (hgs : SemLoc.reg gs = semN j) (hws : SemLoc.reg ws = semN i) (hu : u = ((1 : ℕ) : ℤ)) (hu' : u' = ((1 : ℕ) : ℤ))
    {sS sR : SemLoc sig} (hS : sS = semN (3 + i)) (hR : sR = semN (5 + i))
    {hsc : (slot recvM i hii).view.ref.isScScratch = false} {hsrc : (slot sendM i hii).view.WordExact} {hdst : (slot recvM i hii).view.WordExact}
    {hty : DmaTarget.Typed .vmem sR (.remote (Dev.tc n₂ : Thread nD τ) (slot recvM i hii) sS hsc)}
    {k : PUnit → KProg F α} {Q : α → sProp 𝕄} :
    iprop(recs X W K ∗ midInv X W c t)
      ⊢ iprop((midInv X W c (t + 1) -∗ run c (k ⟨⟩) Q)
        -∗ run c (.op (.load (Memref.whole cc0_stg0_0) (xRect off hin).toLoadRect hl1) fun vx => .op (.load (Memref.whole cc0_stg1_0) (wRect hi0).toLoadRect hl2) fun vw =>
            .op (.waitDma sem rf sh e hk) fun _ => .op (.load recvM (slotRect j hij).toLoadRect hl3) fun vr =>
            .op (.waitDma sem' rf' sh' e' hk') fun _ => .op (.load sendM (slotRect i hii).toLoadRect hl4) fun _ =>
            .op (.store sendM (slotRect i hii) (pay vx vw vr) Finset.univ hx hm) fun _ =>
            .op (.semSignal (Dev.tc n₁ : Thread nD τ) gs u) fun _ => .op (.semWait ws u') fun _ =>
            .op (.enqueueDma (slot sendM i hii) (.remote (Dev.tc n₂ : Thread nD τ) (slot recvM i hii) sS hsc) sR hsrc hdst hty) k) Q) := by
  have e1 : (t + 3) % 2 = (t + 1) % 2 := by omega
  have e2 : (t + 3) / 2 = (t + 1) / 2 + 1 := by omega
  have e3 : (t + 3) / 2 - 1 = (t + 1) / 2 := by omega
  have e4 : t % 2 = (t + 2) % 2 := by omega
  have e5 : t / 2 + 1 = (t + 2) / 2 := by omega
  have hi' : i = (t + 2) % 2 := hi.trans e4
  have hsem'' : SemLoc.dma sem' = semN (3 + t % 2) := by rw [hsem', hi]
  have hsem1 : SemLoc.dma sem = semN (5 + j) := hsem
  have hgs' : SemLoc.reg gs = semN ((t + 3) % 2) := by rw [hgs, hj, e1]
  subst hi'
  unfold midInv
  iintro ⟨#HR, HO, Hx, Hw, Hp, Hp', Hs, Hs', Hq, Hq', Hts, Htr, Htc, Hcr, Hcc, Hg⟩ Hk
  iapply (step_in X W K c (hop c (15 - (t + 1 + 1))) (l := t + 1) (a := t + 2) (b := t + 3) 1 (by omega) (by omega) (by omega) ho hj hsem1 hN) $$ [HO Hx Hw Hp Hcr Hg]
  · isplitr; · iexact HR
    isplitl [HO]; · iexact HO
    isplitl [Hx]; · iexact Hx
    isplitl [Hw]; · iexact Hw
    isplitl [Hp]; · iexact Hp
    isplitl [Hcr]; · iexact Hcr
    iexact Hg
  iintro ⟨HO, Hx, Hw, Hp, Hcr, Hg, Hv, Hb, #Hr, #Hr'⟩
  iapply (step_sent X W K c (s := t) (t + 2) (t + 3) 1 (by omega) hsem'' hN') $$ [HO Hs]
  · isplitr; · iexact HR
    isplitl [HO]; · iexact HO
    iexact Hs
  iintro ⟨HO, Hf, #Hr2, Ha⟩
  ihave Ha := (Entails.of_eq (blkAny_congr sendM c e4)) $$ Ha
  iapply (step_fill c (t + 2) rfl) $$ Ha
  iintro Ha
  ihave Hv := (blkAny_intro recvM c (t + 1) _) $$ Hv
  ihave Hv := (Entails.of_eq (blkAny_congr recvM c e1.symm)) $$ Hv
  iapply (step_give X W K c (b := t + 3) (t + 2) 1 (by omega) (by omega) n₁ hn₁ hgs' hu) $$ [HO Htc Hv]
  · isplitr; · iexact HR
    isplitl [HO]; · iexact HO
    isplitl [Htc]; · iexact Htc
    isplitl [Hv]; · iexact Hv
    isplitr
    · rw [e1, e2]; iexact Hr
    · rw [e1, e3]; iexact Hr'
  iintro ⟨HO, Htc⟩
  iapply (step_take X W K c (s := t + 2) (a := t + 2) (b := t + 3 + 1) 1 (by omega) (by omega) (by omega) (by omega) hws hu') $$ [HO Hq Hcc]
  · isplitr; · iexact HR
    isplitl [HO]; · iexact HO
    isplitl [Hq]; · iexact Hq
    iexact Hcc
  iintro ⟨HO, Hq, Hcc, #Hr3, Hd, #Hr4⟩
  have hv : pay (rows (hop c (15 - (t + 1 + 1))) (X c)) (W c) (carry X W (t + 1) (prv c)) = carry X W (t + 2) c := (hpay _ _ _).trans rfl
  rw [hv]
  iapply (step_send X W K c (s := t + 2) (by omega) (t + 3 + 1) 1 n₂ hn₂ hS hR) $$ [HO Ha Hd Hb Hts Htr Hf]
  · isplitr; · iexact HR
    isplitl [HO]; · iexact HO
    isplitl [Ha]; · iexact Ha
    isplitl [Hd]; · iexact Hd
    isplitl [Hb]
    · rw [show 15 - (t + 1) = 16 - (t + 2) by omega]; iexact Hb
    isplitr; · iexact Hr3
    isplitl [Hts]; · iexact Hts
    isplitl [Htr]; · iexact Htr
    isplitl [Hf]; · iexact Hf
    isplitr; · rw [← e4, ← e5]; iexact Hr2
    iexact Hr4
  iintro ⟨HO, Hts, Htr, Hs⟩
  iapply Hk
  isplitl [HO]; · iexact HO
  isplitl [Hx]; · iexact Hx
  isplitl [Hw]; · iexact Hw
  isplitl [Hp']; · iexact Hp'
  isplitl [Hp]; · iexact Hp
  isplitl [Hs']; · iexact Hs'
  isplitl [Hs]; · iexact Hs
  isplitl [Hq']; · iexact Hq'
  isplitl [Hq]; · iexact Hq
  isplitl [Hts]; · iexact Hts
  isplitl [Htr]; · iexact Htr
  isplitl [Htc]; · iexact Htc
  isplitl [Hcr]; · iexact Hcr
  isplitl [Hcc]; · iexact Hcc
  iexact Hg

end Mid

end Cert.KernelIdeal.RS

end
-- ==== Proof.Ends.lean ====
/-
  The barrier at the start, and the rows of maxima told around at the end, one lemma per operation.
-/
module

public import proofs.«01_k».proof.Proof.Steps
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Ends

variable (X : Dev nD → Vec F S4096x256 .f32) (W : Dev nD → Vec F S256x8192 .f32) (K : Dev nD × Fin 38 → ℕ) {α : Type}

/-! ## The barrier -/

theorem bar_prv (c n' : Dev nD) (hn' : n' = prv c) {sem : Sem sig} {u : ℤ} (hsem : SemLoc.reg sem = semN 2) (hu : u = ((1 : ℕ) : ℤ)) {k : PUnit → KProg F α} {Q : α → sProp 𝕄} :
    iprop(recs X W K ∗ owing c (owed₀ c) ∗ dutyTok ER (cell (prv c) 2) 0 true ∗ blkAny recvM c 0 ∗ blkAny recvM c 1)
      ⊢ iprop((owing c (debt c 0 2 1 + tallyAt (cell (nxt c) 2) 0 1) -∗ run c (k ⟨⟩) Q) -∗ run c (.op (.semSignal (Dev.tc n' : Thread nD τ) sem u) k) Q) := by
  have h2 : 2 < 38 := by omega
  have hp : payOf X W (prv c) 2 0 true = iprop(blkAny (F := F) recvM c 0 ∗ blkAny (F := F) recvM c 1) := by
    show barPay (prv c) = _
    unfold barPay; rw [nxt_prv]
  have hd : true ∈ (sched X W).duties (cell (prv c) 2) 0 := by rw [duties_bar]; exact Finset.mem_univ _
  iintro ⟨#HR, HO, Ht, Hb⟩ Hk
  iapply (run_signal X W K c (prv c) n' hn' h2 true hsem hu (by omega) hd 0 (debt c 0 2 1 + tallyAt (cell (nxt c) 2) 0 1) rfl) $$ [HO Ht Hb]
  · isplitr; · iexact HR
    isplitl [HO]; · iexact HO
    isplitl [Ht]; · iexact Ht
    isplitl [Hb]; · rw [hp]; iexact Hb
    iapply (recs_start X W K (prv c) h2); iexact HR
  iexact Hk

theorem bar_nxt (c n' : Dev nD) (hn' : n' = nxt c) {sem : Sem sig} {u : ℤ} (hsem : SemLoc.reg sem = semN 2) (hu : u = ((1 : ℕ) : ℤ)) {k : PUnit → KProg F α} {Q : α → sProp 𝕄} :
    iprop(recs X W K ∗ owing c (debt c 0 2 1 + tallyAt (cell (nxt c) 2) 0 1) ∗ dutyTok ER (cell (nxt c) 2) 0 false)
      ⊢ iprop((owing c (debt c 0 2 1) -∗ run c (k ⟨⟩) Q) -∗ run c (.op (.semSignal (Dev.tc n' : Thread nD τ) sem u) k) Q) := by
  have h2 : 2 < 38 := by omega
  have hp : payOf X W (nxt c) 2 0 false = iprop(emp) := rfl
  have hd : false ∈ (sched X W).duties (cell (nxt c) 2) 0 := by rw [duties_bar]; exact Finset.mem_univ _
  iintro ⟨#HR, HO, Ht⟩ Hk
  iapply (run_signal X W K c (nxt c) n' hn' h2 false hsem hu (by omega) hd 0 (debt c 0 2 1) rfl) $$ [HO Ht]
  · isplitr; · iexact HR
    isplitl [HO]; · iexact HO
    isplitl [Ht]; · iexact Ht
    isplitr; · rw [hp]; iempintro
    iapply (recs_start X W K (nxt c) h2); iexact HR
  iexact Hk

theorem bar_wait (c : Dev nD) {sem : Sem sig} {u : ℤ} (hsem : SemLoc.reg sem = semN 2) (hu : u = ((2 : ℕ) : ℤ)) {k : PUnit → KProg F α} {Q : α → sProp 𝕄} :
    iprop(recs X W K ∗ owing c (debt c 0 2 1) ∗ cred (tallyAt (cell c 2) 0 2) ∗ atPos ER (cell c 2) 0 ∅ 0)
      ⊢ iprop((owing c (debt c 0 2 1) ∗ atPos ER (cell c 2) 1 ∅ 0 ∗ barPay c -∗ run c (k ⟨⟩) Q) -∗ run c (.op (.semWait sem u) k) Q) := by
  subst hu
  have h2 : 2 < 38 := by omega
  have hl : lev (cell c 2) 0 = 1 := by rw [lev_cell _ h2, if_pos rfl]
  have hm : (levAts idx lev : sProp 𝕄) ⊢ MayWait (c : Thread nD τ) (semN 2) 0 (debt c 0 2 1) :=
    mayWait_debt c 1 h2 (by omega) (by omega) (by omega) (by omega)
  have hw (Q : PUnit → sProp 𝕄) : wpE (defs₀ (F := F)) Variants.none (c : Thread nD τ) none Set.univ (.semWait sem ((2 : ℕ) : ℤ)) Q
      = waitSpec (c : Thread nD τ) Set.univ (semN 2) 2 Q := by rw [← hsem]; exact wpE_semWait_eq Variants.none (c : Thread nD τ) none Set.univ Q
  unfold owing
  iintro ⟨#HR, ⟨%wt, HO⟩, Hc, Hp⟩ Hk
  iapply (Rounds.wp_wait_rest_token Variants.none ER (sched X W) (c : Thread nD τ) none (κ := K (c, ⟨2, h2⟩)) hw (Set.mem_univ _) 0 (O := debt c 0 2 1) (W := wt) (R := 0) (m := 0) (T := ∅)
    ((Nat.zero_add _).trans (expect_bar X W c).symm)) $$ [Hc HO Hp]
  · isplitr; · iapply (recs_inv X W K c h2); iexact HR
    isplitl [Hc]; · iexact Hc
    isplitl [HO]; · iexact HO
    isplitr; · iapply hm; iapply (recs_lev X W K); iexact HR
    iexact Hp
  iintro ⟨HO, Hp, -, HP⟩
  ihave HP := (Entails.of_eq (rest_bar X W c)) $$ HP
  icases HP with ⟨-, HP⟩
  iapply Hk
  isplitl [HO]; · iexists _; iexact HO
  isplitl [Hp]; · iexact Hp
  iexact HP

/-! ## The maxima -/

/-- The transfers of a device's own row, before they are issued, while out, and done. -/
abbrev bsPos (c : Dev nD) (i : ℕ) : sProp 𝕄 := atPos ER (cell c (7 + i)) 0 ∅ 0
abbrev bsOut (c : Dev nD) (i : ℕ) : sProp 𝕄 := iprop(atPos ER (cell c (7 + i)) 0 ∅ 0 ∗ cred (tallyAt (cell c (7 + i)) 0 NRow))
def bsDone (c : Dev nD) (i : ℕ) : sProp 𝕄 := iprop(atPos ER (cell c (7 + i)) 1 ∅ 0 ∗ rowAt c c (pieceShare i) (peak X W c))

/-- The wait for the row of device `j`, before and after; there is none for one's own. -/
def rowPend (c : Dev nD) (j : ℕ) : sProp 𝕄 := iprop(atPos ER (cell c (22 + j)) 0 ∅ 0 ∗ if j = c.val then iprop(emp) else cred (tallyAt (cell c (22 + j)) 0 NRow))
def rowDone (c : Dev nD) (j : ℕ) : sProp 𝕄 :=
  iprop(atPos ER (cell c (22 + j)) (roundsOf c (22 + j)) ∅ 0 ∗ if j = c.val then iprop(emp) else rowAt c (hop 0 j) fullShare (peak X W (hop 0 j)))

theorem upTo_put (A : ℕ → sProp 𝕄) (b : ℕ) : iprop(upTo A 0 b ∗ A b) ⊢ upTo A 0 (b + 1) := by
  unfold upTo
  rw [bigSep_Ico_succ_top (Nat.zero_le b) A]
  iintro ⟨H, H'⟩
  isplitl [H']; · iexact H'
  iexact H

theorem mayWait_none (c : Dev nD) (sm : SemLoc sig) : (levAts idx lev : sProp 𝕄) ⊢ MayWait (c : Thread nD τ) sm 0 (debt c 15 15 16) := by
  rw [debt_none, MayWait_zero]
  iintro -
  iempintro

/-- The device's own row sent to the device `i + 1` places on, with half of what is left of it. -/
theorem row_send (c : Dev nD) {i : ℕ} (hi : i < 15) (n' : Dev nD) (hn' : n' = hop c (i + 1)) {sS sR : SemLoc sig} (hS : sS = semN (7 + i)) (hR : sR = semN (22 + c.val))
    {off : Fin 3 → ℕ} (ho : off = ![c.val, 0, 0]) {hin : ∀ a, off a + S1x8x128.size a ≤ S16x8x128.size a}
    {hsc : ((maxM.slice (Rect.unit off S1x8x128.size hin) (fun _ => rfl)).squeeze S8x128 squeezes_S1x8x128_S8x128).view.ref.isScScratch = false}
    {hsrc : ((maxM.slice (Rect.unit off S1x8x128.size hin) (fun _ => rfl)).squeeze S8x128 squeezes_S1x8x128_S8x128).view.WordExact}
    {hdst : ((maxM.slice (Rect.unit off S1x8x128.size hin) (fun _ => rfl)).squeeze S8x128 squeezes_S1x8x128_S8x128).view.WordExact}
    {hsem : DmaTarget.Typed .vmem sR (.remote (Dev.tc n' : Thread nD τ) ((maxM.slice (Rect.unit off S1x8x128.size hin) (fun _ => rfl)).squeeze S8x128 squeezes_S1x8x128_S8x128) sS hsc)}
    {k : PUnit → KProg F α} {Q : α → sProp 𝕄} :
    iprop(recs X W K ∗ owing c (debt c 15 15 (i + 1)) ∗ rowAt c c (restShare i) (peak X W c) ∗ upTo (fun o => rowAny (F := F) (hop c o) c) (i + 1) 16
        ∗ upTo (rowTok c) (i + 1) 16 ∗ upTo (bsTok c) i 15 ∗ upTo (bsPos c) i 15 ∗ upTo (bsOut c) 0 i)
      ⊢ iprop((owing c (debt c 15 15 (i + 1 + 1)) ∗ rowAt c c (restShare (i + 1)) (peak X W c) ∗ upTo (fun o => rowAny (F := F) (hop c o) c) (i + 1 + 1) 16
          ∗ upTo (rowTok c) (i + 1 + 1) 16 ∗ upTo (bsTok c) (i + 1) 15 ∗ upTo (bsPos c) (i + 1) 15 ∗ upTo (bsOut c) 0 (i + 1) -∗ run c (k ⟨⟩) Q)
        -∗ run c (.op (.enqueueDma ((maxM.slice (Rect.unit off S1x8x128.size hin) (fun _ => rfl)).squeeze S8x128 squeezes_S1x8x128_S8x128)
            (.remote (Dev.tc n' : Thread nD τ) ((maxM.slice (Rect.unit off S1x8x128.size hin) (fun _ => rfl)).squeeze S8x128 squeezes_S1x8x128_S8x128) sS hsc) sR hsrc hdst hsem) k) Q) := by
  subst ho
  have hc : c.val < 16 := c.isLt
  have h7 : 7 + i < 38 := by omega
  have h22 : 22 + c.val < 38 := by omega
  have hne : c ≠ hop c (i + 1) := fun e => by
    have := congrArg Fin.val e; rw [hop_val] at this; omega
  have hN : ((maxM.slice (rowR c) (fun _ => rfl)).squeeze S8x128 squeezes_S1x8x128_S8x128).view.amount (semN (22 + c.val)) = NRow := by
    rw [semN_dma (by omega) (by omega)]
  have hp₁ : owns (c : Thread nD τ) (maxM.slice (rowR c) (fun _ => rfl)) (pieceShare i) (peak X W c) ⊢ (sched X W).payload (cell c (7 + i)) 0 false := by
    rw [payload_cell X W c h7, pay_bsend X W c hi]; unfold rowAt; exact .rfl
  have hp₂ : iprop(owns (hop c (i + 1) : Thread nD τ) (maxM.slice (rowR c) (fun _ => rfl)) fullShare (peak X W c) ∗ emp)
      ⊢ (sched X W).payload (cell (hop c (i + 1)) (22 + c.val)) 0 false := by
    rw [payload_cell X W (hop c (i + 1)) h22, pay_row]; unfold rowAt
    iintro ⟨H, -⟩; iexact H
  have hA₁ : (sched X W).amount (cell c (7 + i)) 0 false = NRow := by rw [amount_cell X W c h7, units_bsend hi]
  have hA₂ : (sched X W).amount (cell (hop c (i + 1)) (22 + c.val)) 0 false = NRow := by rw [amount_cell X W _ h22, units_row]
  have hsplit : rowAt c c (restShare i) (peak X W c) ⊢ iprop(rowAt c c (pieceShare i) (peak X W c) ∗ rowAt c c (restShare (i + 1)) (peak X W c)) := by
    unfold rowAt; exact (owns_halves ..).1
  unfold owing
  iintro ⟨#HR, ⟨%wt, HO⟩, Hs, Hd, HtR, HtS, Hp, Ho⟩ Hk
  ihave Hs := hsplit $$ Hs
  icases Hs with ⟨Hs, Hs'⟩
  ihave Hd := (upTo_take (fun o => rowAny (F := F) (hop c o) c) (by omega : i + 1 < 16)) $$ Hd
  icases Hd with ⟨Hd, Hd'⟩
  ihave HtR := (upTo_take (rowTok c) (by omega : i + 1 < 16)) $$ HtR
  icases HtR with ⟨HtR, HtR'⟩
  ihave HtS := (upTo_take (bsTok c) hi) $$ HtS
  icases HtS with ⟨HtS, HtS'⟩
  ihave Hp := (upTo_take (bsPos c) hi) $$ Hp
  icases Hp with ⟨Hp, Hp'⟩
  unfold rowAny rowAt
  iapply (run_send c X W (hop c (i + 1)) n' hn' (ms := maxM.slice (rowR c) (fun _ => rfl)) (md := maxM.slice (rowR c) (fun _ => rfl)) (7 + i) (22 + c.val) hS hR
    (K (c, ⟨7 + i, h7⟩)) (K (hop c (i + 1), ⟨22 + c.val, h22⟩)) 0 0 NRow 0 (pieceShare i) (peak X W c) iprop(emp)
    (mem_duties X W c h7 (by omega) (rounds_bsend c hi)) (mem_duties X W (hop c (i + 1)) h22 (by omega) (rounds_row (hop c (i + 1)) c hne))
    hN hA₁ hA₂ (debt c 15 15 (i + 1 + 1)) (debt_row c 15 15 (by omega)) hp₁ hp₂) $$ [Hs Hd HO HtS HtR]
  · isplitr; · iapply (recs_inv X W K c h7); iexact HR
    isplitr; · iapply (recs_inv X W K (hop c (i + 1)) h22); iexact HR
    isplitl [Hs]; · iexact Hs
    isplitl [Hd]; · iexact Hd
    isplitr; · iempintro
    isplitl [HO]; · iexact HO
    isplitl [HtS]; · iexact HtS
    isplitr; · iapply (recs_start X W K c h7); iexact HR
    isplitl [HtR]; · iexact HtR
    iapply (recs_start X W K (hop c (i + 1)) h22); iexact HR
  iintro ⟨Hc, HO⟩
  iapply Hk
  isplitl [HO]; · iexists _; iexact HO
  isplitl [Hs']; · iexact Hs'
  isplitl [Hd']; · iexact Hd'
  isplitl [HtR']; · iexact HtR'
  isplitl [HtS']; · iexact HtS'
  isplitl [Hp']; · iexact Hp'
  iapply (upTo_put (bsOut c) i)
  isplitl [Ho]; · iexact Ho
  isplitl [Hp]; · iexact Hp
  iexact Hc

/-- The wait for one of those transfers to have been read. -/
theorem row_sent (c : Dev nD) {i : ℕ} (hi : i < 15) {κ' : Kind} {rf : Ref sig κ'} {sh : Shape} {e : EltTy} {sem : DmaSem sig}
    {hk : (c : Thread nD τ).2 = .tc ∨ rf.HasMemref sh e} (hsem : SemLoc.dma sem = semN (7 + i)) (hN : rf.dmaCredit sh e = NRow)
    {k : PUnit → KProg F α} {Q : α → sProp 𝕄} :
    iprop(recs X W K ∗ owing c (debt c 15 15 16) ∗ upTo (bsOut c) i 15 ∗ upTo (bsDone X W c) 0 i)
      ⊢ iprop((owing c (debt c 15 15 16) ∗ upTo (bsOut c) (i + 1) 15 ∗ upTo (bsDone X W c) 0 (i + 1) -∗ run c (k ⟨⟩) Q)
        -∗ run c (.op (.waitDma sem rf sh e hk) k) Q) := by
  have h7 : 7 + i < 38 := by omega
  have hu := units_bsend hi
  iintro ⟨#HR, HO, Hp, Hd⟩ Hk
  ihave Hp := (upTo_take (bsOut c) hi) $$ Hp
  icases Hp with ⟨⟨Hp, Hc⟩, Hp'⟩
  iapply (wait_dma X W K c (i := 0) h7 (by omega) (rounds_bsend c hi) hsem (hN.trans hu.symm) (mayWait_none c (semN (7 + i)))) $$ [Hc HO Hp]
  · isplitr; · iexact HR
    isplitl [Hc]; · rw [hu]; iexact Hc
    isplitl [HO]; · iexact HO
    iexact Hp
  iintro ⟨HO, Hp, -, HP⟩
  ihave HP := (Entails.of_eq (pay_bsend X W c hi)) $$ HP
  iapply Hk
  isplitl [HO]; · iexact HO
  isplitl [Hp']; · iexact Hp'
  iapply (upTo_put (bsDone X W c) i)
  isplitl [Hd]; · iexact Hd
  unfold bsDone
  isplitl [Hp]; · iexact Hp
  iexact HP

/-- The wait for another device's row. -/
theorem row_recv (c : Dev nD) {j : ℕ} (hj : j < 16) (hne : j ≠ c.val) {κ' : Kind} {rf : Ref sig κ'} {sh : Shape} {e : EltTy} {sem : DmaSem sig}
    {hk : (c : Thread nD τ).2 = .tc ∨ rf.HasMemref sh e} (hsem : SemLoc.dma sem = semN (22 + j)) (hN : rf.dmaCredit sh e = NRow)
    {k : PUnit → KProg F α} {Q : α → sProp 𝕄} :
    iprop(recs X W K ∗ owing c (debt c 15 15 16) ∗ rowPend c j)
      ⊢ iprop((owing c (debt c 15 15 16) ∗ rowDone X W c j -∗ run c (k ⟨⟩) Q) -∗ run c (.op (.waitDma sem rf sh e hk) k) Q) := by
  have h22 : 22 + j < 38 := by omega
  have hu := units_row j
  have ej : (hop 0 j).val = j := by rw [hop_val]; show (0 + j) % 16 = j; omega
  have hne' : hop 0 j ≠ c := fun e => hne (by rw [← ej, e])
  have hr := rounds_row c (hop 0 j) hne'
  have hp := pay_row X W c (hop 0 j)
  rw [ej] at hr hp
  have hr1 : roundsOf c (22 + j) = 1 := by
    unfold roundsOf; rw [if_neg (by omega), if_neg (by omega), if_neg (by omega), if_neg (by omega), if_neg (by omega), if_pos (by omega), if_neg (by omega)]
  unfold rowPend rowDone
  rw [if_neg hne, if_neg hne, hr1]
  iintro ⟨#HR, HO, ⟨Hp, Hc⟩⟩ Hk
  iapply (wait_dma X W K c (i := 0) h22 (by omega) hr hsem (hN.trans hu.symm) (mayWait_none c (semN (22 + j)))) $$ [Hc HO Hp]
  · isplitr; · iexact HR
    isplitl [Hc]; · rw [hu]; iexact Hc
    isplitl [HO]; · iexact HO
    iexact Hp
  iintro ⟨HO, Hp, -, HP⟩
  ihave HP := (Entails.of_eq hp) $$ HP
  iapply Hk
  isplitl [HO]; · iexact HO
  isplitl [Hp]; · iexact Hp
  iexact HP

end Ends

end Cert.KernelIdeal.RS

end
-- ==== Proof.Waits.lean ====
/-
  The waits for the other devices' maxima; a device leaves itself out by testing its own number.
-/
module

public import proofs.«01_k».proof.Proof.Ends
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Waits

variable (X : Dev nD → Vec F S4096x256 .f32) (W : Dev nD → Vec F S256x8192 .f32) (K : Dev nD × Fin 38 → ℕ) {α : Type}

theorem run_ret (c : Dev nD) (a : α) (Q : α → sProp 𝕄) : Q a ⊢ run c (.ret a) Q := by
  unfold run; rw [wp_ret]; exact fupd_intro

theorem run_bind (c : Dev nD) {β : Type} (p : KProg F β) (k : β → KProg F α) (Q : α → sProp 𝕄) : run c p (fun x => run c (k x) Q) ⊢ run c (p >>= k) Q :=
  Entails.of_eq (wp_bind _ _ _ _ _ _).symm

/-- The device's own number, as the program computes it, -/
abbrev myId (c : Dev nD) : BitVec 32 := Scalar.remsi (Scalar.divsi (Dev.word c) 1#32) 16#32

/-- and the test by which it leaves itself out. -/
abbrev other (c : Dev nD) (j : ℕ) : Prop := Scalar.cmpi .ne (Scalar.extui (Scalar.cmpi .ne (myId c) (BitVec.ofNat 32 j))) 0#32 = 1#1

theorem other_iff (c : Dev nD) {j : ℕ} (hj : j < 16) : other c j ↔ j ≠ c.val :=
  (by decide +kernel : ∀ (c : Dev nD) (j : Fin 16), other c j.val ↔ j.val ≠ c.val) c ⟨j, hj⟩

/-- Waiting for the row of device `j`, if that is another. -/
theorem row_recv_if (c : Dev nD) {j : ℕ} (hj : j < 16) {κ' : Kind} {rf : Ref sig κ'} {sh : Shape} {e : EltTy} {sem : DmaSem sig}
    {hk : (c : Thread nD τ).2 = .tc ∨ rf.HasMemref sh e} (hsem : SemLoc.dma sem = semN (22 + j)) (hN : rf.dmaCredit sh e = NRow)
    {k : PUnit → KProg F α} {Q : α → sProp 𝕄} :
    iprop(recs X W K ∗ owing c (debt c 15 15 16) ∗ upTo (rowPend c) j 16 ∗ upTo (rowDone X W c) 0 j)
      ⊢ iprop((owing c (debt c 15 15 16) ∗ upTo (rowPend c) (j + 1) 16 ∗ upTo (rowDone X W c) 0 (j + 1) -∗ run c (k ⟨⟩) Q)
        -∗ run c (dite (other c j) (fun _ => .op (.waitDma sem rf sh e hk) k) (fun _ => k ⟨⟩)) Q) := by
  iintro ⟨#HR, HO, Hp, Hd⟩ Hk
  ihave Hp := (upTo_take (rowPend c) hj) $$ Hp
  icases Hp with ⟨Hp, Hp'⟩
  by_cases h : j = c.val
  · have hp : rowPend (F := F) c j ⊢ rowDone X W c j := by
      have hr : roundsOf c (22 + j) = 0 := by unfold roundsOf; (repeat' split) <;> omega
      unfold rowPend rowDone
      rw [hr, if_pos h, if_pos h]
    rw [dif_neg fun e => (other_iff c hj).1 e h]
    ihave Hp := hp $$ Hp
    iapply Hk
    isplitl [HO]; · iexact HO
    isplitl [Hp']; · iexact Hp'
    iapply (upTo_put (rowDone X W c) j)
    isplitl [Hd]; · iexact Hd
    iexact Hp
  · rw [dif_pos ((other_iff c hj).2 h)]
    iapply (row_recv X W K c hj h hsem hN) $$ [HO Hp]
    · isplitr; · iexact HR
      isplitl [HO]; · iexact HO
      iexact Hp
    iintro ⟨HO, Hp⟩
    iapply Hk
    isplitl [HO]; · iexact HO
    isplitl [Hp']; · iexact Hp'
    iapply (upTo_put (rowDone X W c) j)
    isplitl [Hd]; · iexact Hd
    iexact Hp

/-- A device the program computes is the one meant when their numbers agree everywhere. -/
theorem dev_of {f : Dev nD → ℕ} {g : Dev nD → Dev nD} (h : ∀ c, f c = (g c).val) (c : Dev nD) (hl : f c < nD) : (⟨f c, hl⟩ : Dev nD) = g c := Fin.ext (h c)

section Parts

variable {a0 : Memref sig .tc .vmem S4096x256 .f32} {h0 : a0.IsWhole} {a1 : Memref sig .tc .vmem S256x8192 .f32} {h1 : a1.IsWhole} {a2 : Memref sig .tc .vmem S256x8192 .f32} {h2 : a2.IsWhole}
  {a3 a4 : Memref sig .tc .vmem S2x256x8192 .f32} {h3 : a3.IsWhole} {h4 : a4.IsWhole} {h5 : maxM.IsWhole} {a6 a7 : DmaSems sig S2} {a8 : Sems sig S2} {v w : BitVec 32}

/-- The last two transfers of its own row, and the wait for the row of device 0. -/
theorem rows_first (c : Dev nD) {w : BitVec 32} {Q : PUnit → sProp 𝕄} :
    iprop(recs X W K ∗ owing c (debt c 15 15 14) ∗ rowAt c c (restShare 13) (peak X W c) ∗ upTo (fun o => rowAny (F := F) (hop c o) c) 14 16
        ∗ upTo (rowTok c) 14 16 ∗ upTo (bsTok c) 13 15 ∗ upTo (bsPos c) 13 15 ∗ upTo (bsOut c) 0 13 ∗ upTo (rowPend c) 0 16)
      ⊢ iprop((owing c (debt c 15 15 16) ∗ rowAt c c (restShare 15) (peak X W c) ∗ upTo (bsOut c) 0 15 ∗ upTo (rowPend c) 1 16 ∗ upTo (rowDone X W c) 0 1 -∗ Q ⟨⟩)
        -∗ run c (k0_part40 (F := F) a0 h0 a1 h1 a2 h2 a3 h3 a4 h4 maxM h5 a6 a7 a8 cc0_scratch6 cc0_scratch7 c (myId c) v w) Q) := by
  rw [k0_part40_eq_skeleton]; unfold k0_part40_skel
  simp (config := {zeta := false}) only [Prog.lift, Prog.bind_op, Prog.bind_ret, Prog.pure_eq_ret]
  iintro ⟨#HR, HO, Hv, Hd, Ht, Hbt, Hbp, Hbo, Hp⟩ Hk
  iapply (row_send X W K c (i := 13) (by decide) ⟨k0_dev44 c, k0_dev44_lt c⟩ (dev_of (f := k0_dev44) (g := fun c => hop c 14) (by decide +kernel) c _) (sem_bsend (by decide) _) (sem_brecv_own c _) (k0_off4_eq c)) $$ [HO Hv Hd Ht Hbt Hbp Hbo]
  · isplitr; · iexact HR
    isplitl [HO]; · iexact HO
    isplitl [Hv]; · iexact Hv
    isplitl [Hd]; · iexact Hd
    isplitl [Ht]; · iexact Ht
    isplitl [Hbt]; · iexact Hbt
    isplitl [Hbp]; · iexact Hbp
    iexact Hbo
  iintro ⟨HO, Hv, Hd, Ht, Hbt, Hbp, Hbo⟩
  iapply (row_send X W K c (i := 14) (by decide) ⟨k0_dev45 c, k0_dev45_lt c⟩ (dev_of (f := k0_dev45) (g := fun c => hop c 15) (by decide +kernel) c _) (sem_bsend (by decide) _) (sem_brecv_own c _) (k0_off4_eq c)) $$ [HO Hv Hd Ht Hbt Hbp Hbo]
  · isplitr; · iexact HR
    isplitl [HO]; · iexact HO
    isplitl [Hv]; · iexact Hv
    isplitl [Hd]; · iexact Hd
    isplitl [Ht]; · iexact Ht
    isplitl [Hbt]; · iexact Hbt
    isplitl [Hbp]; · iexact Hbp
    iexact Hbo
  iintro ⟨HO, Hv, Hd, Ht, Hbt, Hbp, Hbo⟩
  ihave Hd := (show (emp : sProp 𝕄) ⊢ upTo (rowDone X W c) 0 0 from Entails.of_eq bigSep_empty.symm) $$ []
  · iempintro
  iapply (row_recv_if X W K c (j := 0) (by decide) (sem_brecv (by decide) _) rfl) $$ [HO Hp Hd]
  · isplitr; · iexact HR
    isplitl [HO]; · iexact HO
    isplitl [Hp]; · iexact Hp
    iexact Hd
  iintro ⟨HO, Hp, Hd⟩
  iapply (run_ret c PUnit.unit Q)
  iapply Hk
  isplitl [HO]; · iexact HO
  isplitl [Hv]; · iexact Hv
  isplitl [Hbo]; · iexact Hbo
  isplitl [Hp]; · iexact Hp
  iexact Hd

/-- The waits for the rows of devices 1 to 10. -/
theorem rows_mid (c : Dev nD) {Q : PUnit → sProp 𝕄} :
    iprop(recs X W K ∗ owing c (debt c 15 15 16) ∗ upTo (rowPend c) 1 16 ∗ upTo (rowDone X W c) 0 1)
      ⊢ iprop((owing c (debt c 15 15 16) ∗ upTo (rowPend c) 11 16 ∗ upTo (rowDone X W c) 0 11 -∗ Q ⟨⟩)
        -∗ run c (k0_part41 (F := F) a0 h0 a1 h1 a2 h2 a3 h3 a4 h4 maxM h5 a6 a7 a8 cc0_scratch6 cc0_scratch7 (myId c) v) Q) := by
  rw [k0_part41_eq_skeleton]; unfold k0_part41_skel
  simp (config := {zeta := false}) only [Prog.lift, Prog.bind_op, Prog.bind_ret, Prog.pure_eq_ret]
  iintro ⟨#HR, HO, Hp, Hd⟩ Hk
  iapply (row_recv_if X W K c (j := 1) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 2) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 3) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 4) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 5) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 6) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 7) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 8) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 9) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 10) (by decide) (sem_brecv (by decide) _) rfl) $$ [HO Hp Hd]
  · isplitr; · iexact HR
    isplitl [HO]; · iexact HO
    isplitl [Hp]; · iexact Hp
    iexact Hd
  iintro ⟨HO, Hp, Hd⟩
  iapply (run_ret c PUnit.unit Q)
  iapply Hk
  isplitl [HO]; · iexact HO
  isplitl [Hp]; · iexact Hp
  iexact Hd

/-- The waits for the rows of devices 11 to 15, and for the first two of its own row's transfers to have been read. -/
theorem rows_late (c : Dev nD) {Q : PUnit → sProp 𝕄} :
    iprop(recs X W K ∗ owing c (debt c 15 15 16) ∗ upTo (rowPend c) 11 16 ∗ upTo (rowDone X W c) 0 11 ∗ upTo (bsOut c) 0 15)
      ⊢ iprop((owing c (debt c 15 15 16) ∗ upTo (rowDone X W c) 0 16 ∗ upTo (bsOut c) 2 15 ∗ upTo (bsDone X W c) 0 2 -∗ Q ⟨⟩)
        -∗ run c (k0_part42 (F := F) a0 h0 a1 h1 a2 h2 a3 h3 a4 h4 maxM h5 a6 a7 a8 cc0_scratch6 cc0_scratch7 c (myId c) v) Q) := by
  rw [k0_part42_eq_skeleton]; unfold k0_part42_skel
  simp (config := {zeta := false}) only [Prog.lift, Prog.bind_op, Prog.bind_ret, Prog.pure_eq_ret]
  iintro ⟨#HR, HO, Hp, Hd, Hs⟩ Hk
  iapply (row_recv_if X W K c (j := 11) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 12) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 13) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 14) (by decide) (sem_brecv (by decide) _) rfl) $$ [HO Hp Hd]
  · isplitr; · iexact HR
    isplitl [HO]; · iexact HO
    isplitl [Hp]; · iexact Hp
    iexact Hd
  iintro ⟨HO, Hp, Hd⟩
  iapply (row_recv_if X W K c (j := 15) (by decide) (sem_brecv (by decide) _) rfl) $$ [HO Hp Hd]
  · isplitr; · iexact HR
    isplitl [HO]; · iexact HO
    isplitl [Hp]; · iexact Hp
    iexact Hd
  iintro ⟨HO, Hp, Hd⟩
  ihave He := (show (emp : sProp 𝕄) ⊢ upTo (bsDone X W c) 0 0 from Entails.of_eq (bigSep_empty).symm) $$ []
  · iempintro
  iapply (row_sent X W K c (i := 0) (by decide) (sem_bsend (by decide) _) rfl) $$ [HO Hs He]
  · isplitr; · iexact HR
    isplitl [HO]; · iexact HO
    isplitl [Hs]; · iexact Hs
    iexact He
  iintro ⟨HO, Hs, He⟩
  iapply (row_sent X W K c (i := 1) (by decide) (sem_bsend (by decide) _) rfl) $$ [HO Hs He]
  · isplitr; · iexact HR
    isplitl [HO]; · iexact HO
    isplitl [Hs]; · iexact Hs
    iexact He
  iintro ⟨HO, Hs, He⟩
  iapply (run_ret c PUnit.unit Q)
  iapply Hk
  isplitl [HO]; · iexact HO
  isplitl [Hd]; · iexact Hd
  isplitl [Hs]; · iexact Hs
  iexact He

end Parts

end Waits

end Cert.KernelIdeal.RS

end
-- ==== Proof.Join.lean ====
/-
  Buffers taken apart into the pieces that travel, and put back together.
-/
module

public import proofs.«01_k».proof.Proof.Ends
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Join

variable (X : Dev nD → Vec F S4096x256 .f32) (W : Dev nD → Vec F S256x8192 .f32) (K : Dev nD × Fin 38 → ℕ)

/-! ## Slots and rows as pieces of their buffers -/

theorem slots_disjoint : ∀ k k' : Fin 2, k ≠ k' → Disjoint (blkR k.val).set (blkR k'.val).set := fun k k' h => Finset.disjoint_left.2 fun i hi hi' => by
  have h1 := Rect.mem_set_unit.1 hi 0
  have h2 := Rect.mem_set_unit.1 hi' 0
  have e1 : (![k.val % 2, 0, 0] : Fin 3 → ℕ) 0 = k.val % 2 := rfl
  have e2 : (![k'.val % 2, 0, 0] : Fin 3 → ℕ) 0 = k'.val % 2 := rfl
  have e3 : S1x256x8192.size 0 = 1 := rfl
  have := k.isLt; have := k'.isLt
  exact h (Fin.ext (by omega))

theorem slots_cover : (Finset.univ : Finset (Fin 2)).biUnion (fun k => (blkR k.val).set) = Finset.univ := Finset.eq_univ_iff_forall.2 fun i =>
  Finset.mem_biUnion.2 ⟨i 0, Finset.mem_univ _, Rect.mem_set_unit.2 fun a => by
    have h0 : (i 0).val < 2 := (i 0).isLt
    have h := (i a).isLt
    fin_cases a
    · show (i 0).val % 2 ≤ (i 0).val ∧ (i 0).val < (i 0).val % 2 + 1
      omega
    · exact ⟨Nat.zero_le _, lt_of_lt_of_eq h (Nat.zero_add _).symm⟩
    · exact ⟨Nat.zero_le _, lt_of_lt_of_eq h (Nat.zero_add _).symm⟩⟩

theorem rows_disjoint : ∀ d d' : Dev nD, d ≠ d' → Disjoint (rowR d).set (rowR d').set := fun d d' h => Finset.disjoint_left.2 fun i hi hi' => by
  have h1 := Rect.mem_set_unit.1 hi 0
  have h2 := Rect.mem_set_unit.1 hi' 0
  have e1 : (![d.val, 0, 0] : Fin 3 → ℕ) 0 = d.val := rfl
  have e2 : (![d'.val, 0, 0] : Fin 3 → ℕ) 0 = d'.val := rfl
  have e3 : S1x8x128.size 0 = 1 := rfl
  exact h (Fin.ext (by omega))

theorem rows_cover : (Finset.univ : Finset (Dev nD)).biUnion (fun d => (rowR d).set) = Finset.univ := Finset.eq_univ_iff_forall.2 fun i =>
  Finset.mem_biUnion.2 ⟨i 0, Finset.mem_univ _, Rect.mem_set_unit.2 fun a => by
    have h := (i a).isLt
    fin_cases a
    · exact ⟨Nat.le_refl _, Nat.lt_succ_self _⟩
    · exact ⟨Nat.zero_le _, lt_of_lt_of_eq h (Nat.zero_add _).symm⟩
    · exact ⟨Nat.zero_le _, lt_of_lt_of_eq h (Nat.zero_add _).symm⟩⟩

/-- A double buffer holding a block in either slot. -/
def both (v : Fin 2 → Vec F S1x256x8192 .f32) : Vec F S2x256x8192 .f32 := fun i => v (i 0) (fun a => if h : a = 0 then ⟨0, by subst h; decide⟩ else ⟨(i a).val, by
  have := (i a).isLt; fin_cases a <;> first | exact absurd rfl h | exact this⟩)

theorem both_slot (v : Fin 2 → Vec F S1x256x8192 .f32) (k : Fin 2) (j : S1x256x8192.Idx) : both v ((blkR k.val).emb j) = v k j := by
  have hk : k.val % 2 = k.val := Nat.mod_eq_of_lt k.isLt
  have h0 : (j 0).val = 0 := Nat.lt_one_iff.1 (j 0).isLt
  unfold both
  have e : ((blkR k.val).emb j) 0 = k := Fin.ext (by
    rw [Rect.emb_apply]; show k.val % 2 + 1 * (j 0).val = k.val; omega)
  rw [e]
  congr 1
  funext a
  fin_cases a
  · exact Fin.ext h0.symm
  · exact Fin.ext (by show 0 + 1 * (j 1).val = (j 1).val; omega)
  · exact Fin.ext (by show 0 + 1 * (j 2).val = (j 2).val; omega)

theorem peaks_row (d : Dev nD) (j : S1x8x128.Idx) : peaks X W ((rowR d).emb j) = peak X W d j := by
  have h0 : (j 0).val = 0 := Nat.lt_one_iff.1 (j 0).isLt
  unfold peaks
  have e : ((rowR d).emb j) 0 = d := Fin.ext (by
    rw [Rect.emb_apply]; show d.val + 1 * (j 0).val = d.val; omega)
  rw [e]
  congr 1
  funext a
  fin_cases a
  · exact Fin.ext h0.symm
  · exact Fin.ext (by show 0 + 1 * (j 1).val = (j 1).val; omega)
  · exact Fin.ext (by show 0 + 1 * (j 2).val = (j 2).val; omega)

/-- A double buffer is its two slots, and is put together from them. -/
theorem slots_split (M : Memref sig .tc .vmem S2x256x8192 .f32) (c : Dev nD) (v : Vec F S2x256x8192 .f32) :
    owns (c : Thread nD τ) M fullShare v ⊢ iprop(blkAny (F := F) M c 0 ∗ blkAny (F := F) M c 1) := by
  refine (owns_rects (c : Thread nD τ) M fullShare (fun k : Fin 2 => blkR k.val) (fun _ _ => rfl) slots_disjoint slots_cover v).trans ?_
  rw [bigSep_univ_eq_bigSepL [(0 : Fin 2), 1] (by decide) (by decide), bigSepL_cons_cons, bigSepL_singleton]
  unfold blkAny blkAt
  show iprop(_ ∗ _) ⊢ _
  iintro ⟨H0, H1⟩
  isplitl [H0]
  · iexists _; iexact H0
  · iexists _; iexact H1

theorem slots_join (M : Memref sig .tc .vmem S2x256x8192 .f32) (c : Dev nD) :
    iprop(blkAny (F := F) M c 0 ∗ blkAny (F := F) M c 1) ⊢ (iprop(∃ v, owns (c : Thread nD τ) M fullShare v) : sProp 𝕄) := by
  unfold blkAny blkAt
  iintro ⟨⟨%v0, H0⟩, ⟨%v1, H1⟩⟩
  have key : _ ⊢ (owns (c : Thread nD τ) M fullShare (both ![v0, v1]) : sProp 𝕄) := owns_of_rects (Val := Elt F) (c : Thread nD τ) M fullShare (fun k : Fin 2 => blkR k.val) (fun _ _ => rfl) slots_disjoint slots_cover (both ![v0, v1])
  rw [bigSep_univ_eq_bigSepL [(0 : Fin 2), 1] (by decide) (by decide), bigSepL_cons_cons, bigSepL_singleton] at key
  simp only [both_slot] at key
  have key' : iprop(owns (c : Thread nD τ) (M.slice (blkR 0) fun _ => rfl) fullShare v0 ∗ owns (c : Thread nD τ) (M.slice (blkR 1) fun _ => rfl) fullShare v1)
      ⊢ (owns (c : Thread nD τ) M fullShare (both ![v0, v1]) : sProp 𝕄) := key
  iexists _
  iapply key'
  isplitl [H0]
  · iexact H0
  · iexact H1

/-! ## The row of a device put back together, and the rows into the array -/

theorem shares_join (c : Dev nD) (v : Vec F S1x8x128 .f32) (n : ℕ) :
    iprop(rowAt c c (restShare n) v ∗ upTo (fun i => rowAt (F := F) c c (pieceShare i) v) 0 n) ⊢ rowAt c c fullShare v := by
  induction n with
  | zero => iintro ⟨H, -⟩; iexact H
  | succ n ih =>
    have hj : iprop(rowAt c c (pieceShare n) v ∗ rowAt c c (restShare (n + 1)) v) ⊢ rowAt (F := F) c c (restShare n) v := by
      unfold rowAt; exact (owns_halves ..).2
    unfold upTo
    rw [bigSep_Ico_succ_top (Nat.zero_le n)]
    iintro ⟨Hr, Hp, H⟩
    iapply ih
    isplitl [Hr Hp]
    · iapply hj
      isplitl [Hp]; · iexact Hp
      iexact Hr
    iexact H

theorem sent_join (c : Dev nD) :
    iprop(rowAt c c (restShare 15) (peak X W c) ∗ upTo (bsDone X W c) 0 15)
      ⊢ iprop(rowAt c c fullShare (peak X W c) ∗ (upTo (fun i => atPos ER (cell c (7 + i)) 1 ∅ 0) 0 15 : sProp 𝕄)) := by
  have hs : upTo (bsDone X W c) 0 15 = iprop((upTo (fun i => atPos ER (cell c (7 + i)) 1 ∅ 0) 0 15 : sProp 𝕄) ∗ upTo (fun i => rowAt (F := F) c c (pieceShare i) (peak X W c)) 0 15) := by
    unfold upTo bsDone; exact bigSep_sep _ _ _
  rw [hs]
  iintro ⟨Hr, Hp, H⟩
  isplitl [Hr H]
  · iapply (shares_join c (peak X W c) 15)
    isplitl [Hr]; · iexact Hr
    iexact H
  iexact Hp

theorem upTo_dev (A : ℕ → sProp 𝕄) : upTo A 0 16 = bigSep Finset.univ fun d : Dev nD => A d.val := by
  unfold upTo
  rw [show Finset.Ico 0 16 = (Finset.univ : Finset (Fin 16)).map Fin.valEmbedding from by decide, bigSep_map]
  rfl

theorem rows_join (c : Dev nD) :
    iprop(rowAt c c fullShare (peak X W c) ∗ upTo (rowDone X W c) 0 16)
      ⊢ iprop(owns (c : Thread nD τ) maxM fullShare (peaks X W) ∗ (upTo (fun j => atPos ER (cell c (22 + j)) (roundsOf c (22 + j)) ∅ 0) 0 16 : sProp 𝕄)) := by
  have hs : upTo (rowDone X W c) 0 16 = iprop((upTo (fun j => atPos ER (cell c (22 + j)) (roundsOf c (22 + j)) ∅ 0) 0 16 : sProp 𝕄)
      ∗ upTo (fun j => if j = c.val then iprop(emp) else rowAt (F := F) c (hop 0 j) fullShare (peak X W (hop 0 j))) 0 16) := by
    unfold upTo rowDone; exact bigSep_sep _ _ _
  have hd : (upTo (fun j => if j = c.val then iprop(emp) else rowAt (F := F) c (hop 0 j) fullShare (peak X W (hop 0 j))) 0 16 : sProp 𝕄)
      ⊢ bigSep ((Finset.univ : Finset (Dev nD)).erase c) fun d => rowAt (F := F) c d fullShare (peak X W d) := by
    rw [upTo_dev, bigSep_erase (Finset.mem_univ c), if_pos rfl]
    show iprop(emp ∗ _) ⊢ _
    iintro ⟨-, H⟩
    iapply (Entails.of_eq (bigSep_congr (Ψ := fun d => rowAt (F := F) c d fullShare (peak X W d)) (Φ := fun d : Dev nD => if d.val = c.val then iprop(emp) else rowAt (F := F) c (hop 0 d.val) fullShare (peak X W (hop 0 d.val))) fun d hd => by
      have hne : d.val ≠ c.val := fun e => (Finset.mem_erase.1 hd).1 (Fin.ext e)
      have hh : hop 0 d.val = d := Fin.ext (by rw [hop_val]; show (0 + d.val) % 16 = d.val; have : d.val < 16 := d.isLt; omega)
      simp only [if_neg hne, hh]))
    iexact H
  have key : _ ⊢ (owns (c : Thread nD τ) maxM fullShare (peaks X W) : sProp 𝕄) := owns_of_rects (Val := Elt F) (c : Thread nD τ) maxM fullShare rowR (fun _ _ => rfl) rows_disjoint rows_cover (peaks X W)
  simp only [peaks_row] at key
  rw [bigSep_erase (Finset.mem_univ c)] at key
  have key' : iprop(rowAt c c fullShare (peak X W c) ∗ bigSep ((Finset.univ : Finset (Dev nD)).erase c) fun d => rowAt (F := F) c d fullShare (peak X W d))
      ⊢ (owns (c : Thread nD τ) maxM fullShare (peaks X W) : sProp 𝕄) := key
  rw [hs]
  iintro ⟨Hr, Hp, H⟩
  ihave H := hd $$ H
  isplitr [Hp]
  · iapply key'
    isplitl [Hr]; · iexact Hr
    iexact H
  iexact Hp

/-- The devices by how far after `c` they come. -/
def away (c : Dev nD) : Dev nD ≃ Dev nD :=
  ⟨fun d => hop c d.val, fun d => hop d (16 - c.val),
    fun d => Fin.ext (by have h1 : c.val < 16 := c.isLt; have h2 : d.val < 16 := d.isLt; simp only [hop_val]; omega),
    fun d => Fin.ext (by have h1 : c.val < 16 := c.isLt; have h2 : d.val < 16 := d.isLt; simp only [hop_val]; omega)⟩

/-- The array of maxima as it is at the start: the device's own row, and those it will hand on. -/
theorem rows_split (c : Dev nD) (v : Vec F S16x8x128 .f32) : owns (c : Thread nD τ) maxM fullShare v ⊢ iprop(rowAny (F := F) c c ∗ bundle (F := F) c 1) := by
  refine (owns_rects (c : Thread nD τ) maxM fullShare rowR (fun _ _ => rfl) rows_disjoint rows_cover v).trans ?_
  have h : (bigSep Finset.univ (fun d : Dev nD => owns (c : Thread nD τ) (maxM.slice (rowR d) fun _ => rfl) fullShare fun j => v ((rowR d).emb j)) : sProp 𝕄)
      ⊢ bigSep Finset.univ fun d : Dev nD => rowAny (F := F) c d :=
    bigSep_mono fun d _ => by
      unfold rowAny rowAt
      exact exists_intro (Φ := fun w => owns (c : Thread nD τ) (maxM.slice (rowR d) fun _ => rfl) fullShare w) (fun j => v ((rowR d).emb j))
  have h' : (bigSep Finset.univ fun d : Dev nD => rowAny (F := F) c d : sProp 𝕄) = upTo (fun o => rowAny (F := F) c (hop c o)) 0 16 := by
    rw [upTo_dev, bigSep_univ_equiv (away c)]
    rfl
  refine h.trans (Entails.of_eq (h'.trans ?_))
  unfold upTo bundle
  rw [bigSep_Ico_succ_bot (by decide : 0 < 16), hop_zero]

end Join

end Cert.KernelIdeal.RS

end
-- ==== Proof.Body.lean ====
/-
  The kernel's body, run from what a device starts with to what it ends with.
-/
module

public import proofs.«01_k».proof.Proof.Mid
public import proofs.«01_k».proof.Proof.Waits
public import proofs.«01_k».proof.Proof.Join
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Body

variable (X : Dev nD → Vec F S4096x256 .f32) (W : Dev nD → Vec F S256x8192 .f32) (K : Dev nD × Fin 38 → ℕ)

/-- Where the kernel finds the block of `x` for step `s`. -/
theorem x_off (c : Dev nD) {s : ℕ} (h : s < 16) : k0_off1 c (BitVec.ofNat 32 s) = ![(hop c (15 - s)).val * 256, 0] :=
  (by decide +kernel : ∀ (c : Dev nD) (s : Fin 16), k0_off1 c (BitVec.ofNat 32 s.val) = ![(hop c (15 - s.val)).val * 256, 0]) c ⟨s, h⟩

/-- What a device starts with: its places in the rounds, its tokens and its credits, -/
def startRes (c : Dev nD) : sProp 𝕄 :=
  iprop(cred (tallyAt (cell c 2) 0 2) ∗ atPos ER (cell c 2) 0 ∅ 0 ∗ dutyTok ER (cell (nxt c) 2) 0 false ∗ dutyTok ER (cell (prv c) 2) 0 true
    ∗ recvPos c 0 ∗ recvPos c 1 ∗ sendFree c 0 ∗ sendFree c 1 ∗ credPos c 2 ∗ credPos c 3
    ∗ upTo (sendTok c) 0 15 ∗ upTo (recvTok c) 0 15 ∗ upTo (credTok c) 2 15 ∗ upTo (recvCred c) 0 15 ∗ upTo (credCred c) 2 15
    ∗ upTo (rowTok c) 1 16 ∗ upTo (bsTok c) 0 15 ∗ upTo (bsPos c) 0 15 ∗ upTo (rowPend c) 0 16)
/-- and its buffers. -/
def startMem (c : Dev nD) : sProp 𝕄 :=
  iprop(blkAny (F := F) recvM c 0 ∗ blkAny (F := F) recvM c 1 ∗ blkAny (F := F) sendM c 0 ∗ blkAny (F := F) sendM c 1 ∗ rowAny (F := F) c c ∗ bundle (F := F) c 1)

/-- What it ends with. -/
def endRes (c : Dev nD) : sProp 𝕄 :=
  iprop(atPos ER (cell c 2) 1 ∅ 0 ∗ recvPos c 15 ∗ recvPos c 16 ∗ sendFree c 15 ∗ sendFree c 16 ∗ credPos c 15 ∗ credPos c 16
    ∗ upTo (fun i => atPos ER (cell c (7 + i)) 1 ∅ 0) 0 15 ∗ upTo (fun j => atPos ER (cell c (22 + j)) (roundsOf c (22 + j)) ∅ 0) 0 16)
def endMem (c : Dev nD) : sProp 𝕄 :=
  iprop(blkAny (F := F) recvM c 0 ∗ blkAny (F := F) recvM c 1 ∗ blkAny (F := F) sendM c 0 ∗ blkAny (F := F) sendM c 1
    ∗ owns (c : Thread nD τ) maxM fullShare (peaks X W))

set_option maxHeartbeats 4000000 in
theorem sound_body (c : Dev nD) (y : Vec F S256x8192 .f32) (Q : PUnit → sProp 𝕄) :
    iprop(recs X W K ∗ owing c (owed₀ c) ∗ xAt c (X c) ∗ wAt c (W c) ∗ outAt c y ∗ startRes c ∗ startMem c)
      ⊢ iprop((owing c 0 ∗ xAt c (X c) ∗ wAt c (W c) ∗ outAt c (result X W c) ∗ endRes c ∗ endMem X W c -∗ Q ⟨⟩)
        -∗ run c (bodyAt0 (F := F) t0_0) Q) := by
  unfold bodyAt0
  simp only [cc0_body_eq_skeleton, cc0_body_skel,
    k0_part46_eq_skeleton, k0_part46_skel, k0_part1_eq_skeleton, k0_part1_skel, k0_part2_eq_skeleton, k0_part2_skel, k0_part3_eq_skeleton, k0_part3_skel, k0_part4_eq_skeleton, k0_part4_skel,
    k0_part5_eq_skeleton, k0_part5_skel, k0_part6_eq_skeleton, k0_part6_skel, k0_part7_eq_skeleton, k0_part7_skel, k0_part8_eq_skeleton, k0_part8_skel, k0_part9_eq_skeleton, k0_part9_skel,
    k0_part10_eq_skeleton, k0_part10_skel, k0_part11_eq_skeleton, k0_part11_skel, k0_part12_eq_skeleton, k0_part12_skel, k0_part13_eq_skeleton, k0_part13_skel, k0_part14_eq_skeleton, k0_part14_skel,
    k0_part15_eq_skeleton, k0_part15_skel, k0_part16_eq_skeleton, k0_part16_skel, k0_part17_eq_skeleton, k0_part17_skel, k0_part18_eq_skeleton, k0_part18_skel, k0_part19_eq_skeleton, k0_part19_skel,
    k0_part20_eq_skeleton, k0_part20_skel, k0_part21_eq_skeleton, k0_part21_skel, k0_part22_eq_skeleton, k0_part22_skel, k0_part23_eq_skeleton, k0_part23_skel, k0_part24_eq_skeleton, k0_part24_skel,
    k0_part25_eq_skeleton, k0_part25_skel, k0_part26_eq_skeleton, k0_part26_skel, k0_part27_eq_skeleton, k0_part27_skel, k0_part28_eq_skeleton, k0_part28_skel, k0_part29_eq_skeleton, k0_part29_skel,
    k0_part30_eq_skeleton, k0_part30_skel, k0_part31_eq_skeleton, k0_part31_skel, k0_part32_eq_skeleton, k0_part32_skel, k0_part33_eq_skeleton, k0_part33_skel, k0_part34_eq_skeleton, k0_part34_skel,
    k0_part35_eq_skeleton, k0_part35_skel, k0_part36_eq_skeleton, k0_part36_skel, k0_part37_eq_skeleton, k0_part37_skel, k0_part38_eq_skeleton, k0_part38_skel, k0_part39_eq_skeleton, k0_part39_skel,
    k0_part43_eq_skeleton, k0_part43_skel, k0_part44_eq_skeleton, k0_part44_skel, k0_part45_eq_skeleton, k0_part45_skel,
    semSignalWord, semWaitWord, Prog.bind_assoc, Prog.lift, Prog.bind_op, Prog.bind_ret, Prog.pure_eq_ret, wp_deviceId]
  have u1 : (1#32).toInt = ((1 : ℕ) : ℤ) := rfl
  have u2 : (2#32).toInt = ((2 : ℕ) : ℤ) := rfl
  have k0 : 0 < 2 := by decide
  have k1 : 1 < 2 := by decide
  unfold startRes startMem
  iintro ⟨#HR, HO, Hx, Hw, Hy, ⟨Hcb, Hpb, Htn, Htp, Hr0, Hr1, Hs0, Hs1, Hc0, Hc1, Hts, Htr, Htc, Hcr, Hcc, Hrt, Hbt, Hbp, Hrp⟩, ⟨Hrv0, Hrv1, Hsv0, Hsv1, Hrow, Hb⟩⟩ Hk
  iapply (bar_prv X W K c ⟨k0_dev1 c, k0_dev1_lt c⟩ (dev_of (f := k0_dev1) (g := prv) (by decide +kernel) c _) rfl u1) $$ [HO Htp Hrv0 Hrv1]
  · isplitr; · iexact HR
    isplitl [HO]; · iexact HO
    isplitl [Htp]; · iexact Htp
    isplitl [Hrv0]; · iexact Hrv0
    iexact Hrv1
  iintro HO
  iapply (bar_nxt X W K c ⟨k0_dev2 c, k0_dev2_lt c⟩ (dev_of (f := k0_dev2) (g := nxt) (by decide +kernel) c _) rfl u1) $$ [HO Htn]
  · isplitr; · iexact HR
    isplitl [HO]; · iexact HO
    iexact Htn
  iintro HO
  iapply (bar_wait X W K c rfl u2) $$ [HO Hcb Hpb]
  · isplitr; · iexact HR
    isplitl [HO]; · iexact HO
    isplitl [Hcb]; · iexact Hcb
    iexact Hpb
  unfold barPay
  iintro ⟨HO, Hpb, Hd0, Hd1⟩
  iapply (read_x c (hop c 15) (X c) (x_off c (s := 0) (by decide))) $$ Hx
  iintro Hx
  iapply (read_w c (W c)) $$ Hw
  iintro Hw
  iapply (step_fill c 0 rfl) $$ Hsv0
  iintro Hsv0
  ihave Hsv0 := (show blkAt sendM c 0 (k0_pay1 (rows (hop c 15) (X c)) (W c)) ⊢ blkAt sendM c 0 (carry X W 0 c) from .rfl) $$ Hsv0
  ihave #A0 := (recs_start X W K c (n := 0) (by decide)) $$ HR
  ihave #A3 := (recs_start X W K c (n := 3) (by decide)) $$ HR
  ihave #A5 := (recs_start X W K (nxt c) (n := 5) (by decide)) $$ HR
  ihave #A1 := (recs_start X W K c (n := 1) (by decide)) $$ HR
  ihave #A4 := (recs_start X W K c (n := 4) (by decide)) $$ HR
  ihave #A6 := (recs_start X W K (nxt c) (n := 6) (by decide)) $$ HR
  ihave Hb := (Entails.of_eq (congrArg (fun d => bundle (F := F) d 1) (hop_full c (n := 16) (by decide)).symm)) $$ Hb
  iapply (step_send X W K c (s := 0) (by decide) 2 1 ⟨k0_dev3 c, k0_dev3_lt c⟩ (dev_of (f := k0_dev3) (g := nxt) (by decide +kernel) c _) (sem_send k0 _) (sem_recv k0 _)) $$ [HO Hsv0 Hd0 Hb Hts Htr Hs0]
  · isplitr; · iexact HR
    isplitl [HO]; · iexact HO
    isplitl [Hsv0]; · iexact Hsv0
    isplitl [Hd0]; · iexact Hd0
    isplitl [Hb]; · iexact Hb
    isplitr; · iexact A0
    isplitl [Hts]; · iexact Hts
    isplitl [Htr]; · iexact Htr
    isplitl [Hs0]; · iexact Hs0
    isplitr; · iexact A3
    iexact A5
  iintro ⟨HO, Hts, Htr, Hs0⟩
  ihave Hg := (show (emp : sProp 𝕄) ⊢ got (F := F) c 0 from Entails.of_eq bigSep_empty.symm) $$ []
  · iempintro
  iapply (step_in X W K c (hop c 14) (l := 0) (a := 1) (b := 2) 1 (by decide) (by decide) (by decide) (x_off c (s := 1) (by decide)) (j := 0) rfl (sem_recv k0 _) rfl) $$ [HO Hx Hw Hr0 Hcr Hg]
  · isplitr; · iexact HR
    isplitl [HO]; · iexact HO
    isplitl [Hx]; · iexact Hx
    isplitl [Hw]; · iexact Hw
    isplitl [Hr0]; · iexact Hr0
    isplitl [Hcr]; · iexact Hcr
    iexact Hg
  iintro ⟨HO, Hx, Hw, Hr0, Hcr, Hg, Hv, Hb, #B0, #B1⟩
  iapply (step_fill c 1 rfl) $$ Hsv1
  iintro Hsv1
  ihave Hsv1 := (show blkAt sendM c 1 (k0_pay4 (k0_pay2 (rows (hop c 14) (X c)) (W c)) (k0_pay3 (carry X W 0 (prv c)))) ⊢ blkAt sendM c 1 (carry X W 1 c) from .rfl) $$ Hsv1
  ihave Hv := (blkAny_intro recvM c 0 _) $$ Hv
  ihave Hv := (Entails.of_eq (blkAny_congr (k := 0) (k' := 2) recvM c rfl)) $$ Hv
  iapply (step_give X W K c (b := 2) 1 1 (by decide) (by decide) ⟨k0_dev4 c, k0_dev4_lt c⟩ (dev_of (f := k0_dev4) (g := prv) (by decide +kernel) c _) (sem_credit k0 _) u1) $$ [HO Htc Hv]
  · isplitr; · iexact HR
    isplitl [HO]; · iexact HO
    isplitl [Htc]; · iexact Htc
    isplitl [Hv]; · iexact Hv
    isplitr; · iexact B0
    iexact B1
  iintro ⟨HO, Htc⟩
  iapply (step_send X W K c (s := 1) (by decide) 3 1 ⟨k0_dev5 c, k0_dev5_lt c⟩ (dev_of (f := k0_dev5) (g := nxt) (by decide +kernel) c _) (sem_send k1 _) (sem_recv k1 _)) $$ [HO Hsv1 Hd1 Hb Hts Htr Hs1]
  · isplitr; · iexact HR
    isplitl [HO]; · iexact HO
    isplitl [Hsv1]; · iexact Hsv1
    isplitl [Hd1]; · iexact Hd1
    isplitl [Hb]; · iexact Hb
    isplitr; · iexact A1
    isplitl [Hts]; · iexact Hts
    isplitl [Htr]; · iexact Htr
    isplitl [Hs1]; · iexact Hs1
    isplitr; · iexact A4
    iexact A6
  iintro ⟨HO, Hts, Htr, Hs1⟩
  ihave Hm := (show iprop(owing c (debt c 2 3 1) ∗ xAt c (X c) ∗ wAt c (W c) ∗ recvPos c 1 ∗ recvPos c 2 ∗ sendOut c 0 ∗ sendOut c 1 ∗ credPos c 2 ∗ credPos c 3 ∗ upTo (sendTok c) 2 15 ∗ upTo (recvTok c) 2 15 ∗ upTo (credTok c) 3 15 ∗ upTo (recvCred c) 1 15 ∗ upTo (credCred c) 2 15 ∗ got (F := F) c 1) ⊢ midInv X W c 0 from .rfl) $$ [HO Hx Hw Hr0 Hr1 Hs0 Hs1 Hc0 Hc1 Hts Htr Htc Hcr Hcc Hg]
  · isplitl [HO]; · iexact HO
    isplitl [Hx]; · iexact Hx
    isplitl [Hw]; · iexact Hw
    isplitl [Hr1]; · iexact Hr1
    isplitl [Hr0]; · iexact Hr0
    isplitl [Hs0]; · iexact Hs0
    isplitl [Hs1]; · iexact Hs1
    isplitl [Hc0]; · iexact Hc0
    isplitl [Hc1]; · iexact Hc1
    isplitl [Hts]; · iexact Hts
    isplitl [Htr]; · iexact Htr
    isplitl [Htc]; · iexact Htc
    isplitl [Hcr]; · iexact Hcr
    isplitl [Hcc]; · iexact Hcc
    iexact Hg
  iapply (step_mid X W K c (t := 0) (by decide) (x_off c (s := 2) (by decide)) rfl rfl (sem_recv k1 _) rfl (sem_send k0 _) rfl (fun _ _ _ => rfl) (dev_of (f := k0_dev6) (g := prv) (by decide +kernel) c _) (dev_of (f := k0_dev7) (g := nxt) (by decide +kernel) c _)
    (sem_credit k1 _) (sem_credit k0 _) u1 u1 (sem_send k0 _) (sem_recv k0 _)) $$ [Hm]
  · isplitr; · iexact HR
    iexact Hm
  iintro Hm
  iapply (step_mid X W K c (t := 1) (by decide) (x_off c (s := 3) (by decide)) rfl rfl (sem_recv k0 _) rfl (sem_send k1 _) rfl (fun _ _ _ => rfl) (dev_of (f := k0_dev8) (g := prv) (by decide +kernel) c _) (dev_of (f := k0_dev9) (g := nxt) (by decide +kernel) c _)
    (sem_credit k0 _) (sem_credit k1 _) u1 u1 (sem_send k1 _) (sem_recv k1 _)) $$ [Hm]
  · isplitr; · iexact HR
    iexact Hm
  iintro Hm
  iapply (step_mid X W K c (t := 2) (by decide) (x_off c (s := 4) (by decide)) rfl rfl (sem_recv k1 _) rfl (sem_send k0 _) rfl (fun _ _ _ => rfl) (dev_of (f := k0_dev10) (g := prv) (by decide +kernel) c _) (dev_of (f := k0_dev11) (g := nxt) (by decide +kernel) c _)
    (sem_credit k1 _) (sem_credit k0 _) u1 u1 (sem_send k0 _) (sem_recv k0 _)) $$ [Hm]
  · isplitr; · iexact HR
    iexact Hm
  iintro Hm
  iapply (step_mid X W K c (t := 3) (by decide) (x_off c (s := 5) (by decide)) rfl rfl (sem_recv k0 _) rfl (sem_send k1 _) rfl (fun _ _ _ => rfl) (dev_of (f := k0_dev12) (g := prv) (by decide +kernel) c _) (dev_of (f := k0_dev13) (g := nxt) (by decide +kernel) c _)
    (sem_credit k0 _) (sem_credit k1 _) u1 u1 (sem_send k1 _) (sem_recv k1 _)) $$ [Hm]
  · isplitr; · iexact HR
    iexact Hm
  iintro Hm
  iapply (step_mid X W K c (t := 4) (by decide) (x_off c (s := 6) (by decide)) rfl rfl (sem_recv k1 _) rfl (sem_send k0 _) rfl (fun _ _ _ => rfl) (dev_of (f := k0_dev14) (g := prv) (by decide +kernel) c _) (dev_of (f := k0_dev15) (g := nxt) (by decide +kernel) c _)
    (sem_credit k1 _) (sem_credit k0 _) u1 u1 (sem_send k0 _) (sem_recv k0 _)) $$ [Hm]
  · isplitr; · iexact HR
    iexact Hm
  iintro Hm
  iapply (step_mid X W K c (t := 5) (by decide) (x_off c (s := 7) (by decide)) rfl rfl (sem_recv k0 _) rfl (sem_send k1 _) rfl (fun _ _ _ => rfl) (dev_of (f := k0_dev16) (g := prv) (by decide +kernel) c _) (dev_of (f := k0_dev17) (g := nxt) (by decide +kernel) c _)
    (sem_credit k0 _) (sem_credit k1 _) u1 u1 (sem_send k1 _) (sem_recv k1 _)) $$ [Hm]
  · isplitr; · iexact HR
    iexact Hm
  iintro Hm
  iapply (step_mid X W K c (t := 6) (by decide) (x_off c (s := 8) (by decide)) rfl rfl (sem_recv k1 _) rfl (sem_send k0 _) rfl (fun _ _ _ => rfl) (dev_of (f := k0_dev18) (g := prv) (by decide +kernel) c _) (dev_of (f := k0_dev19) (g := nxt) (by decide +kernel) c _)
    (sem_credit k1 _) (sem_credit k0 _) u1 u1 (sem_send k0 _) (sem_recv k0 _)) $$ [Hm]
  · isplitr; · iexact HR
    iexact Hm
  iintro Hm
  iapply (step_mid X W K c (t := 7) (by decide) (x_off c (s := 9) (by decide)) rfl rfl (sem_recv k0 _) rfl (sem_send k1 _) rfl (fun _ _ _ => rfl) (dev_of (f := k0_dev20) (g := prv) (by decide +kernel) c _) (dev_of (f := k0_dev21) (g := nxt) (by decide +kernel) c _)
    (sem_credit k0 _) (sem_credit k1 _) u1 u1 (sem_send k1 _) (sem_recv k1 _)) $$ [Hm]
  · isplitr; · iexact HR
    iexact Hm
  iintro Hm
  iapply (step_mid X W K c (t := 8) (by decide) (x_off c (s := 10) (by decide)) rfl rfl (sem_recv k1 _) rfl (sem_send k0 _) rfl (fun _ _ _ => rfl) (dev_of (f := k0_dev22) (g := prv) (by decide +kernel) c _) (dev_of (f := k0_dev23) (g := nxt) (by decide +kernel) c _)
    (sem_credit k1 _) (sem_credit k0 _) u1 u1 (sem_send k0 _) (sem_recv k0 _)) $$ [Hm]
  · isplitr; · iexact HR
    iexact Hm
  iintro Hm
  iapply (step_mid X W K c (t := 9) (by decide) (x_off c (s := 11) (by decide)) rfl rfl (sem_recv k0 _) rfl (sem_send k1 _) rfl (fun _ _ _ => rfl) (dev_of (f := k0_dev24) (g := prv) (by decide +kernel) c _) (dev_of (f := k0_dev25) (g := nxt) (by decide +kernel) c _)
    (sem_credit k0 _) (sem_credit k1 _) u1 u1 (sem_send k1 _) (sem_recv k1 _)) $$ [Hm]
  · isplitr; · iexact HR
    iexact Hm
  iintro Hm
  iapply (step_mid X W K c (t := 10) (by decide) (x_off c (s := 12) (by decide)) rfl rfl (sem_recv k1 _) rfl (sem_send k0 _) rfl (fun _ _ _ => rfl) (dev_of (f := k0_dev26) (g := prv) (by decide +kernel) c _) (dev_of (f := k0_dev27) (g := nxt) (by decide +kernel) c _)
    (sem_credit k1 _) (sem_credit k0 _) u1 u1 (sem_send k0 _) (sem_recv k0 _)) $$ [Hm]
  · isplitr; · iexact HR
    iexact Hm
  iintro Hm
  iapply (step_mid X W K c (t := 11) (by decide) (x_off c (s := 13) (by decide)) rfl rfl (sem_recv k0 _) rfl (sem_send k1 _) rfl (fun _ _ _ => rfl) (dev_of (f := k0_dev28) (g := prv) (by decide +kernel) c _) (dev_of (f := k0_dev29) (g := nxt) (by decide +kernel) c _)
    (sem_credit k0 _) (sem_credit k1 _) u1 u1 (sem_send k1 _) (sem_recv k1 _)) $$ [Hm]
  · isplitr; · iexact HR
    iexact Hm
  iintro Hm
  unfold midInv
  icases Hm with ⟨HO, Hx, Hw, Hp, Hp', Hs, Hs', Hq, Hq', Hts, Htr, Htc, Hcr, Hcc, Hg⟩
  iapply (step_in X W K c (hop c 1) (l := 13) (a := 14) (b := 15) 1 (by decide) (by decide) (by decide) (x_off c (s := 14) (by decide)) (j := 1) rfl (sem_recv k1 _) rfl) $$ [HO Hx Hw Hp Hcr Hg]
  · isplitr; · iexact HR
    isplitl [HO]; · iexact HO
    isplitl [Hx]; · iexact Hx
    isplitl [Hw]; · iexact Hw
    isplitl [Hp]; · iexact Hp
    isplitl [Hcr]; · iexact Hcr
    iexact Hg
  iintro ⟨HO, Hx, Hw, Hp, Hcr, Hg, Hv, Hb, #B2, #B3⟩
  iapply (step_sent X W K c (s := 12) 14 15 1 (by decide) (sem_send k0 _) rfl) $$ [HO Hs]
  · isplitr; · iexact HR
    isplitl [HO]; · iexact HO
    iexact Hs
  iintro ⟨HO, Hs, #B4, Ha⟩
  ihave Ha := (Entails.of_eq (blkAny_congr (k := 12) (k' := 14) sendM c rfl)) $$ Ha
  iapply (step_fill c 14 rfl) $$ Ha
  iintro Ha
  ihave Ha := (show blkAt sendM c 14 (k0_pay28 (k0_pay27 (rows (hop c 1) (X c)) (W c)) (carry X W 13 (prv c))) ⊢ blkAt sendM c 14 (carry X W 14 c) from .rfl) $$ Ha
  iapply (step_take X W K c (s := 14) (a := 14) (b := 15) 1 (by decide) (by decide) (by decide) (by decide) (sem_credit k0 _) u1) $$ [HO Hq Hcc]
  · isplitr; · iexact HR
    isplitl [HO]; · iexact HO
    isplitl [Hq]; · iexact Hq
    iexact Hcc
  iintro ⟨HO, Hq, Hcc, #B5, Hd, #B6⟩
  iapply (step_send X W K c (s := 14) (by decide) 15 1 ⟨k0_dev30 c, k0_dev30_lt c⟩ (dev_of (f := k0_dev30) (g := nxt) (by decide +kernel) c _) (sem_send k0 _) (sem_recv k0 _)) $$ [HO Ha Hd Hb Hts Htr Hs]
  · isplitr; · iexact HR
    isplitl [HO]; · iexact HO
    isplitl [Ha]; · iexact Ha
    isplitl [Hd]; · iexact Hd
    isplitl [Hb]; · iexact Hb
    isplitr; · iexact B5
    isplitl [Hts]; · iexact Hts
    isplitl [Htr]; · iexact Htr
    isplitl [Hs]; · iexact Hs
    isplitr; · iexact B4
    iexact B6
  iintro ⟨HO, Hts, Htr, Hs⟩
  ihave Hv := (blkAny_intro recvM c 13 _) $$ Hv
  iapply (step_in X W K c c (l := 14) (a := 15) (b := 15) 1 (by decide) (by decide) (by decide) (x_off c (s := 15) (by decide) |>.trans (by rw [Nat.sub_self, hop_zero])) (j := 0) rfl (sem_recv k0 _) rfl) $$ [HO Hx Hw Hp' Hcr Hg]
  · isplitr; · iexact HR
    isplitl [HO]; · iexact HO
    isplitl [Hx]; · iexact Hx
    isplitl [Hw]; · iexact Hw
    isplitl [Hp']; · iexact Hp'
    isplitl [Hcr]; · iexact Hcr
    iexact Hg
  iintro ⟨HO, Hx, Hw, Hp', Hcr, Hg, Hv', Hb, -, -⟩
  iapply (step_sent X W K c (s := 14) 15 15 1 (by decide) (sem_send k0 _) rfl) $$ [HO Hs]
  · isplitr; · iexact HR
    isplitl [HO]; · iexact HO
    iexact Hs
  iintro ⟨HO, Hs, -, Ha⟩
  iapply (step_sent X W K c (s := 13) 15 15 1 (by decide) (sem_send k1 _) rfl) $$ [HO Hs']
  · isplitr; · iexact HR
    isplitl [HO]; · iexact HO
    iexact Hs'
  iintro ⟨HO, Hs', -, Ha'⟩
  iapply (write_out c y) $$ Hy
  iintro Hy
  iapply (row_fill c (k0_off2_eq c)) $$ Hrow
  iintro Hrow
  ihave Hrow := (show rowAt c c fullShare (k0_pay31 (k0_pay29 (rows c (X c)) (W c)) (carry X W 14 (prv c))) ⊢ rowAt c c (restShare 0) (peak X W c) from .rfl) $$ Hrow
  ihave Hd := (show got (F := F) c 15 ⊢ upTo (fun o => rowAny (F := F) (hop c o) c) 1 16 from .rfl) $$ Hg
  ihave Hbo := (show (emp : sProp 𝕄) ⊢ upTo (bsOut c) 0 0 from Entails.of_eq bigSep_empty.symm) $$ []
  · iempintro
  iapply (row_send X W K c (i := 0) (by decide) ⟨k0_dev31 c, k0_dev31_lt c⟩ (dev_of (f := k0_dev31) (g := fun c => hop c 1) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 1) (by decide) ⟨k0_dev32 c, k0_dev32_lt c⟩ (dev_of (f := k0_dev32) (g := fun c => hop c 2) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 2) (by decide) ⟨k0_dev33 c, k0_dev33_lt c⟩ (dev_of (f := k0_dev33) (g := fun c => hop c 3) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 3) (by decide) ⟨k0_dev34 c, k0_dev34_lt c⟩ (dev_of (f := k0_dev34) (g := fun c => hop c 4) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 4) (by decide) ⟨k0_dev35 c, k0_dev35_lt c⟩ (dev_of (f := k0_dev35) (g := fun c => hop c 5) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 5) (by decide) ⟨k0_dev36 c, k0_dev36_lt c⟩ (dev_of (f := k0_dev36) (g := fun c => hop c 6) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 6) (by decide) ⟨k0_dev37 c, k0_dev37_lt c⟩ (dev_of (f := k0_dev37) (g := fun c => hop c 7) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 7) (by decide) ⟨k0_dev38 c, k0_dev38_lt c⟩ (dev_of (f := k0_dev38) (g := fun c => hop c 8) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 8) (by decide) ⟨k0_dev39 c, k0_dev39_lt c⟩ (dev_of (f := k0_dev39) (g := fun c => hop c 9) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 9) (by decide) ⟨k0_dev40 c, k0_dev40_lt c⟩ (dev_of (f := k0_dev40) (g := fun c => hop c 10) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 10) (by decide) ⟨k0_dev41 c, k0_dev41_lt c⟩ (dev_of (f := k0_dev41) (g := fun c => hop c 11) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 11) (by decide) ⟨k0_dev42 c, k0_dev42_lt c⟩ (dev_of (f := k0_dev42) (g := fun c => hop c 12) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (row_send X W K c (i := 12) (by decide) ⟨k0_dev43 c, k0_dev43_lt c⟩ (dev_of (f := k0_dev43) (g := fun c => hop c 13) (by decide +kernel) c _) (sem_bsend (by decide) _) (sem_brecv_own c _) (k0_off4_eq c)) $$ [HO Hrow Hd Hrt Hbt Hbp Hbo]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    iexact Hbo
  iintro ⟨HO, Hrow, Hd, Hrt, Hbt, Hbp, Hbo⟩
  iapply (run_bind c _ _ Q)
  iapply (rows_first X W K c) $$ [HO Hrow Hd Hrt Hbt Hbp Hbo Hrp]
  · isplitr; · iexact HR
    isplitl [HO]; · iexact HO
    isplitl [Hrow]; · iexact Hrow
    isplitl [Hd]; · iexact Hd
    isplitl [Hrt]; · iexact Hrt
    isplitl [Hbt]; · iexact Hbt
    isplitl [Hbp]; · iexact Hbp
    isplitl [Hbo]; · iexact Hbo
    iexact Hrp
  iintro ⟨HO, Hrow, Hbo, Hrp, Hrd⟩
  iapply (run_bind c _ _ Q)
  iapply (rows_mid X W K c) $$ [HO Hrp Hrd]
  · isplitr; · iexact HR
    isplitl [HO]; · iexact HO
    isplitl [Hrp]; · iexact Hrp
    iexact Hrd
  iintro ⟨HO, Hrp, Hrd⟩
  iapply (run_bind c _ _ Q)
  iapply (rows_late X W K c) $$ [HO Hrp Hrd Hbo]
  · isplitr; · iexact HR
    isplitl [HO]; · iexact HO
    isplitl [Hrp]; · iexact Hrp
    isplitl [Hrd]; · iexact Hrd
    iexact Hbo
  iintro ⟨HO, Hrd, Hbo, Hbd⟩
  iapply (row_sent X W K c (i := 2) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 3) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 4) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 5) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 6) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 7) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 8) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 9) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 10) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 11) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 12) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 13) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  iapply (row_sent X W K c (i := 14) (by decide) (sem_bsend (by decide) _) rfl) $$ [HO Hbo Hbd]
  · isplitr; · iexact HR
    isplitl [HO]; · iexact HO
    isplitl [Hbo]; · iexact Hbo
    iexact Hbd
  iintro ⟨HO, Hbo, Hbd⟩
  ihave Hj := (sent_join X W c) $$ [Hrow Hbd]
  · isplitl [Hrow]; · iexact Hrow
    iexact Hbd
  icases Hj with ⟨Hrow, Hbe⟩
  ihave Hj := (rows_join X W c) $$ [Hrow Hrd]
  · isplitl [Hrow]; · iexact Hrow
    iexact Hrd
  icases Hj with ⟨Hmx, Hre⟩
  iapply (read_max c (peaks X W)) $$ Hmx
  iintro Hmx
  iapply (read_out c _) $$ Hy
  iintro Hy
  iapply (write_out c _) $$ Hy
  iintro Hy
  iapply (run_ret c PUnit.unit Q)
  iapply Hk
  ihave HO := (Entails.of_eq (congrArg (owing c) (debt_none c))) $$ HO
  ihave Hv' := (blkAny_intro recvM c 14 _) $$ Hv'
  ihave Hv' := (Entails.of_eq (blkAny_congr (k := 14) (k' := 0) recvM c rfl)) $$ Hv'
  ihave Hv := (Entails.of_eq (blkAny_congr (k := 13) (k' := 1) recvM c rfl)) $$ Hv
  ihave Ha := (Entails.of_eq (blkAny_congr (k := 14) (k' := 0) sendM c rfl)) $$ Ha
  ihave Ha' := (Entails.of_eq (blkAny_congr (k := 13) (k' := 1) sendM c rfl)) $$ Ha'
  isplitl [HO]; · iexact HO
  isplitl [Hx]; · iexact Hx
  isplitl [Hw]; · iexact Hw
  isplitl [Hy]; · iexact Hy
  isplitr [Hv' Hv Ha Ha' Hmx]
  · unfold endRes
    isplitl [Hpb]; · iexact Hpb
    isplitl [Hp]; · iexact Hp
    isplitl [Hp']; · iexact Hp'
    isplitl [Hs']; · iexact Hs'
    isplitl [Hs]; · iexact Hs
    isplitl [Hq']; · iexact Hq'
    isplitl [Hq]; · iexact Hq
    isplitl [Hbe]; · iexact Hbe
    iexact Hre
  · unfold endMem
    isplitl [Hv']; · iexact Hv'
    isplitl [Hv]; · iexact Hv
    isplitl [Ha]; · iexact Ha
    isplitl [Ha']; · iexact Ha'
    iexact Hmx

end Body

end Cert.KernelIdeal.RS

end
-- ==== Proof.Credits.lean ====
/-
  The credits every device holds at the start, out of what the others owe it.
-/
module

public import proofs.«01_k».proof.Proof.Join
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Credits

variable (X : Dev nD → Vec F S4096x256 .f32) (W : Dev nD → Vec F S256x8192 .f32) (K : Dev nD × Fin 38 → ℕ) {α : Type}

/-! ## Classes over a range, in other forms -/

theorem upTo_fin {n : ℕ} (A : ℕ → sProp 𝕄) : upTo A 0 n = bigSep Finset.univ fun k : Fin n => A k.val := by
  unfold upTo
  rw [show Finset.Ico 0 n = (Finset.univ : Finset (Fin n)).map Fin.valEmbedding from Finset.ext fun i => by
    simp only [Finset.mem_Ico, Finset.mem_map, Finset.mem_univ, true_and]
    constructor
    · rintro ⟨-, h⟩; exact ⟨⟨i, h⟩, rfl⟩
    · rintro ⟨k, rfl⟩; exact ⟨Nat.zero_le _, k.isLt⟩, bigSep_map]
  rfl

theorem upTo_shift (A : ℕ → sProp 𝕄) (a n : ℕ) : upTo A a (a + n) = upTo (fun i => A (a + i)) 0 n := by
  unfold upTo
  rw [show Finset.Ico a (a + n) = (Finset.Ico 0 n).map (addLeftEmbedding a) from Finset.ext fun i => by
    simp only [Finset.mem_Ico, Finset.mem_map, addLeftEmbedding_apply]
    constructor
    · rintro ⟨h1, h2⟩; exact ⟨i - a, ⟨Nat.zero_le _, by omega⟩, by omega⟩
    · rintro ⟨k, ⟨-, h⟩, rfl⟩; exact ⟨by omega, by omega⟩, bigSep_map]
  rfl

theorem upTo_two (A B : ℕ → sProp 𝕄) (a b : ℕ) : upTo (fun i => iprop(A i ∗ B i)) a b = iprop(upTo A a b ∗ upTo B a b) := bigSep_sep _ _ _

/-- Something for every semaphore of a device, by class. -/
theorem places (A : ℕ → sProp 𝕄) : (bigSep Finset.univ fun k : Fin 38 => A k.val)
    = iprop(A 0 ∗ A 1 ∗ A 2 ∗ A 3 ∗ A 4 ∗ A 5 ∗ A 6 ∗ upTo (fun i => A (7 + i)) 0 15 ∗ upTo (fun j => A (22 + j)) 0 16) := by
  have h : upTo A 7 38 = iprop(upTo A 7 22 ∗ upTo A 22 38) := by
    unfold upTo
    rw [show Finset.Ico 7 38 = Finset.Ico 7 22 ∪ Finset.Ico 22 38 from by decide]
    exact bigSep_union (by decide)
  rw [← upTo_shift A 7 15, ← upTo_shift A 22 16, ← h, ← upTo_fin]
  unfold upTo
  rw [bigSep_Ico_succ_bot (by decide : 0 < 38), bigSep_Ico_succ_bot (by decide : 0 + 1 < 38), bigSep_Ico_succ_bot (by decide : 0 + 1 + 1 < 38), bigSep_Ico_succ_bot (by decide : 0 + 1 + 1 + 1 < 38),
    bigSep_Ico_succ_bot (by decide : 0 + 1 + 1 + 1 + 1 < 38), bigSep_Ico_succ_bot (by decide : 0 + 1 + 1 + 1 + 1 + 1 < 38), bigSep_Ico_succ_bot (by decide : 0 + 1 + 1 + 1 + 1 + 1 + 1 < 38)]

/-! ## The credits a device starts with -/

/-- Each device owing one tally on a cell of the device `π` takes it to, each device is credited one. -/
theorem cred_moved (π : Dev nD ≃ Dev nD) (ν : Dev nD → ℕ) (i k : ℕ) (c : Dev nD) :
    (Pipeline.launchCred (fun d => tallyAt (cell (π d) (ν d)) i k) c : sProp 𝕄) ⊢ cred (tallyAt (cell c (ν (π.symm c))) i k) := by
  have h : tallyOn (cell c (ν (π.symm c))) (launchCredit (Pipeline.owing fun d => tallyAt (cell (π d) (ν d)) i k) 0 (cell c (ν (π.symm c))))
      = (tallyAt (cell c (ν (π.symm c))) i k : CellTallies nD τ sig ℕ) := by
    rw [show (tallyAt (cell c (ν (π.symm c))) i k : CellTallies nD τ sig ℕ) = tallyOn (cell c (ν (π.symm c))) (Finsupp.single i k) from rfl]
    refine congrArg _ (Finsupp.ext fun u => ?_)
    rw [Pipeline.launchCredit_owing, Finset.sum_eq_single (π.symm c)]
    · rw [π.apply_symm_apply, tallyAt_apply, Finsupp.single_apply]
      by_cases hu : u = i
      · rw [if_pos ⟨rfl, hu⟩, if_pos hu.symm]
      · rw [if_neg fun e => hu e.2, if_neg fun e => hu e.symm]
    · intro d _ hd
      rw [tallyAt_apply, if_neg]
      rintro ⟨e, -⟩
      have e1 : c = π d := Fin.ext (congrArg (fun g : GSem nD τ sig => g.1.1.val) e)
      exact hd (by rw [e1, Equiv.symm_apply_apply])
    · intro h; exact absurd (Finset.mem_univ _) h
  rw [← h]
  exact Pipeline.launchCred_elim _ c _

/-- The credits for the rows of the other devices. -/
abbrev rowCred (c : Dev nD) (j : ℕ) : sProp 𝕄 := if j = c.val then iprop(emp) else cred (tallyAt (cell c (22 + j)) 0 NRow)

theorem row_creds (c : Dev nD) : (upTo (fun i => cred (tallyAt (cell c (22 + (hop c (16 - i)).val)) 0 NRow)) 1 16 : sProp 𝕄) ⊢ upTo (rowCred c) 0 16 := by
  have hc : c.val < 16 := c.isLt
  have e : upTo (rowCred (F := F) c) 0 16 = upTo (fun i => rowCred (F := F) c (hop c (16 - i)).val) 0 16 := by
    rw [upTo_dev, upTo_dev, bigSep_univ_equiv (⟨fun d => hop c (16 - d.val), fun d => hop c (16 - d.val), fun d => ?_, fun d => ?_⟩ : Dev nD ≃ Dev nD)]
    · rfl
    all_goals
      have hd : d.val < 16 := d.isLt
      exact Fin.ext (by simp only [hop_val]; omega)
  rw [e]
  unfold upTo
  rw [bigSep_Ico_succ_bot (by decide : 0 < 16)]
  have h0 : rowCred (F := F) c (hop c (16 - 0)).val = iprop(emp) := if_pos (congrArg Fin.val (hop_full c (n := 16) (by decide)))
  have h1 : (bigSep (Finset.Ico (0 + 1) 16) fun i => rowCred (F := F) c (hop c (16 - i)).val)
      = bigSep (Finset.Ico (0 + 1) 16) fun i => cred (tallyAt (cell c (22 + (hop c (16 - i)).val)) 0 NRow) :=
    bigSep_congr fun i hi => if_neg fun h => by
      have := Finset.mem_Ico.1 hi
      rw [hop_val] at h; omega
  rw [h0, h1]
  iintro H
  isplitr; · iempintro
  iexact H

/-- A device's launch credit: two units at its barrier, every landing, every credit, the rows of the others. -/
theorem creds (c : Dev nD) : (Pipeline.launchCred owed₀ c : sProp 𝕄)
    ⊢ iprop(cred (tallyAt (cell c 2) 0 2) ∗ upTo (recvCred c) 0 15 ∗ upTo (credCred c) 2 15 ∗ upTo (rowCred c) 0 16) := by
  have e : (owed₀ : Dev nD → CellTallies nD τ sig ℕ) = fun d => ((∑ s ∈ Finset.Ico 0 15, oweSend d s) + (∑ s ∈ Finset.Ico 2 15, oweCredit d s) + ∑ i ∈ Finset.Ico 1 16, oweRow d i)
      + tallyAt (cell (nxt d) 2) 0 1 + tallyAt (cell (prv d) 2) 0 1 := rfl
  have h1 : (bigSep (Finset.Ico 0 15) fun s => Pipeline.launchCred (fun d => oweSend d s) c : sProp 𝕄) ⊢ upTo (recvCred c) 0 15 :=
    bigSep_mono fun s _ => cred_moved (turn 1 (by decide)) (fun _ => 5 + s % 2) s NBlk c
  have h2 : (bigSep (Finset.Ico 2 15) fun s => Pipeline.launchCred (fun d => oweCredit d s) c : sProp 𝕄) ⊢ upTo (credCred c) 2 15 :=
    bigSep_mono fun s _ => cred_moved (turn 15 (by decide)) (fun _ => s % 2) s 1 c
  have h3 : (bigSep (Finset.Ico 1 16) fun i => Pipeline.launchCred (fun d => oweRow d i) c : sProp 𝕄) ⊢ upTo (rowCred c) 0 16 :=
    (bigSep_mono fun i hi => cred_moved (turn i (by have := Finset.mem_Ico.1 hi; omega)) (fun d => 22 + d.val) 0 NRow c).trans (row_creds c)
  have h4 := cred_moved (F := F) (turn 1 (by decide)) (fun _ => 2) 0 1 c
  have h5 := cred_moved (F := F) (turn 15 (by decide)) (fun _ => 2) 0 1 c
  have h6 : iprop(cred (tallyAt (cell c 2) 0 1) ∗ cred (tallyAt (cell c 2) 0 1)) ⊢ (cred (tallyAt (cell c 2) 0 2) : sProp 𝕄) := by
    have := (cred_add (Val := Elt F) (Name := ℕ) (U := UU) (Lvl := ℕ) (tallyAt (cell c 2) 0 1) (tallyAt (cell c 2) 0 1)).2
    rwa [tallyAt_add] at this
  rw [e, Pipeline.launchCred_add, Pipeline.launchCred_add, Pipeline.launchCred_add, Pipeline.launchCred_add, Pipeline.launchCred_sum, Pipeline.launchCred_sum, Pipeline.launchCred_sum]
  iintro ⟨⟨⟨⟨H1, H2⟩, H3⟩, H4⟩, H5⟩
  isplitl [H4 H5]
  · iapply h6
    isplitl [H4]
    · iapply h4; iexact H4
    · iapply h5; iexact H5
  isplitl [H1]; · iapply h1; iexact H1
  isplitl [H2]; · iapply h2; iexact H2
  iapply h3; iexact H3

end Credits

end Cert.KernelIdeal.RS

end
-- ==== Proof.Grant.lean ====
/-
  The dealing at the launch: every semaphore a cell with its invariant, every device the duties it does.
-/
module

public import proofs.«01_k».proof.Proof.Credits
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Grant

variable (X : Dev nD → Vec F S4096x256 .f32) (W : Dev nD → Vec F S256x8192 .f32) (K : Dev nD × Fin 38 → ℕ) {α : Type}

/-! ## The semaphores -/

/-- The scoped semaphores, in their order: all but the barrier's. -/
def osem (k : Fin 37) : SemLoc sig := semN ((2 : Fin 38).succAbove k).val

/-- A device's scoped and unscoped semaphores are its cells. -/
theorem sems_all (c : Dev nD) : iprop(Pipeline.ownSems0 (Ix := ℕ) (Name := ℕ) (U := UU) (Lvl := ℕ) (Val := Elt F) (τ := τ) osem c ∗ unscopedSems0 c)
    = (bigSep Finset.univ fun k : Fin 38 => semVal (cell c k.val) 0 : sProp 𝕄) := by
  have hu : (unscopedSems0 c : sProp 𝕄) = semVal (cell c 2) 0 := by
    unfold unscopedSems0; rw [bigSep_eq_bigSepL_of_eq [semN 2] (by decide) (by decide)]; rfl
  rw [hu, bigSep_univ_at (fun k : Fin 38 => (semVal (cell c k.val) 0 : sProp 𝕄)) 2]
  have hm : Finset.univ.erase (2 : Fin 38) = (Finset.univ : Finset (Fin 37)).map (Fin.succAboveEmb 2) := by decide +kernel
  rw [hm, bigSep_map]
  exact sep_comm.antisymm sep_comm

/-! ## What is minted -/

theorem cell_of_inj : Function.Injective (fun p : Dev nD × Fin 38 => cell p.1 p.2.val) := fun p q h => by
  have := cell_inj p.2.isLt q.2.isLt h
  exact Prod.ext this.1 (Fin.ext this.2)

def cells : Finset (GSem nD τ sig) := Finset.univ.map ⟨_, cell_of_inj⟩

/-- The duties of a device's cells: its barrier's two; for every round a sending, a landing and a credit; the rows sent and landing. -/
abbrev Tok : Type := Bool ⊕ Fin 15 ⊕ Fin 15 ⊕ Fin 13 ⊕ Fin 15 ⊕ Fin 16

def tokAt : Tok → Fin 38 × ℕ × Bool
  | .inl b => (2, 0, b)
  | .inr (.inl s) => (⟨3 + s.val % 2, by omega⟩, s.val / 2, false)
  | .inr (.inr (.inl s)) => (⟨5 + s.val % 2, by omega⟩, s.val / 2, false)
  | .inr (.inr (.inr (.inl k))) => (⟨(2 + k.val) % 2, by omega⟩, (2 + k.val) / 2 - 1, false)
  | .inr (.inr (.inr (.inr (.inl i)))) => (⟨7 + i.val, by omega⟩, 0, false)
  | .inr (.inr (.inr (.inr (.inr j)))) => (⟨22 + j.val, by omega⟩, 0, false)

theorem tokAt_inj : Function.Injective tokAt := by
  rintro (b | s | s | k | i | j) (b' | s' | s' | k' | i' | j') h
  all_goals
    simp only [tokAt, Prod.mk.injEq, Fin.ext_iff, Fin.isValue, Fin.coe_ofNat_eq_mod] at h
    obtain ⟨h1, h2, h3⟩ := h
    first
      | (exfalso; omega)
      | (subst h3; rfl)
      | (congr; exact Fin.ext (by omega))

theorem tokOf_inj : Function.Injective (fun p : Dev nD × Tok => ((cell p.1 (tokAt p.2).1.val, (tokAt p.2).2.1, (tokAt p.2).2.2) : GSem nD τ sig × ℕ × Bool)) :=
  fun p q h => by
    have h1 := cell_inj (tokAt p.2).1.isLt (tokAt q.2).1.isLt (congrArg (fun x => x.1) h)
    exact Prod.ext h1.1 (tokAt_inj (Prod.ext (Fin.ext h1.2) (congrArg (fun x => x.2) h)))

def toks : Finset (GSem nD τ sig × ℕ × Bool) := Finset.univ.map ⟨_, tokOf_inj⟩

/-- The duties of a device's own cells, -/
def minted (c : Dev nD) : sProp 𝕄 :=
  iprop((dutyTok ER (cell c 2) 0 false ∗ dutyTok ER (cell c 2) 0 true) ∗ upTo (sendTok c) 0 15
    ∗ upTo (fun s => dutyTok ER (cell c (5 + s % 2)) (s / 2) false) 0 15 ∗ upTo (fun s => dutyTok ER (cell c (s % 2)) (s / 2 - 1) false) 2 15
    ∗ upTo (bsTok c) 0 15 ∗ upTo (fun j => dutyTok ER (cell c (22 + j)) 0 false) 0 16)

/-- and the duties a device does. -/
def dealt (c : Dev nD) : sProp 𝕄 :=
  iprop((dutyTok ER (cell (nxt c) 2) 0 false ∗ dutyTok ER (cell (prv c) 2) 0 true) ∗ upTo (sendTok c) 0 15
    ∗ upTo (recvTok c) 0 15 ∗ upTo (credTok c) 2 15 ∗ upTo (bsTok c) 0 15 ∗ upTo (rowTok c) 1 16)

theorem minted_eq (c : Dev nD) : (bigSep Finset.univ fun t : Tok => dutyTok ER (cell c (tokAt t).1.val) (tokAt t).2.1 (tokAt t).2.2 : sProp 𝕄) = minted c := by
  unfold minted
  rw [bigSep_univ_sum, bigSep_univ_sum, bigSep_univ_sum, bigSep_univ_sum, bigSep_univ_sum, bigSep_univ_eq_bigSepL [false, true] (by decide) (by decide),
    upTo_fin, upTo_fin, upTo_shift _ 2 13, upTo_fin, upTo_fin, upTo_fin]
  rfl

/-- A duty on every device's cell of a kind, dealt to the device a turn away. -/
theorem turned (n : ℕ) (hn : n ≤ 16) (A : Dev nD → ℕ → sProp 𝕄) (a b : ℕ) :
    (bigSep Finset.univ fun c : Dev nD => upTo (A c) a b) = bigSep Finset.univ fun c : Dev nD => upTo (A (hop c n)) a b :=
  bigSep_univ_equiv (turn n hn) _

/-- The duties on the rows: dealt to the devices whose rows they are. -/
theorem rows_dealt : (bigSep Finset.univ fun c : Dev nD => upTo (fun j => dutyTok ER (cell c (22 + j)) 0 false) 0 16 : sProp 𝕄)
    ⊢ bigSep Finset.univ fun c : Dev nD => upTo (rowTok c) 1 16 := by
  have e : (bigSep Finset.univ fun c : Dev nD => upTo (fun j => dutyTok ER (cell c (22 + j)) 0 false) 0 16 : sProp 𝕄)
      = bigSep Finset.univ fun c : Dev nD => upTo (rowTok c) 0 16 := by
    rw [show (fun c : Dev nD => (upTo (fun j => dutyTok ER (cell c (22 + j)) 0 false) 0 16 : sProp 𝕄))
        = fun c => bigSep Finset.univ fun j : Dev nD => dutyTok ER (cell c (22 + j.val)) 0 false from funext fun c => upTo_dev _, bigSep_univ_comm]
    refine bigSep_congr fun c _ => ?_
    rw [upTo_dev, bigSep_univ_equiv (away c)]
    rfl
  rw [e]
  refine bigSep_mono fun c _ => ?_
  unfold upTo
  rw [bigSep_Ico_succ_bot (by decide : 0 < 16)]
  exact (show iprop(_ ∗ upTo (rowTok c) (0 + 1) 16) ⊢ upTo (rowTok c) 1 16 from by iintro ⟨-, H⟩; iexact H)

theorem deal : (bigSep Finset.univ fun c : Dev nD => (minted c : sProp 𝕄)) ⊢ bigSep Finset.univ fun c : Dev nD => dealt c := by
  unfold minted dealt
  rw [bigSep_sep', bigSep_sep', bigSep_sep', bigSep_sep', bigSep_sep', bigSep_sep', bigSep_sep', bigSep_sep', bigSep_sep', bigSep_sep', bigSep_sep', bigSep_sep',
    bigSep_univ_equiv (turn 1 (by decide)) (fun c : Dev nD => (dutyTok ER (cell c 2) 0 false : sProp 𝕄)),
    bigSep_univ_equiv (turn 15 (by decide)) (fun c : Dev nD => (dutyTok ER (cell c 2) 0 true : sProp 𝕄)),
    turned 1 (by decide) (fun c s => (dutyTok ER (cell c (5 + s % 2)) (s / 2) false : sProp 𝕄)),
    turned 15 (by decide) (fun c s => (dutyTok ER (cell c (s % 2)) (s / 2 - 1) false : sProp 𝕄))]
  iintro ⟨⟨H1, H2⟩, H3, H4, H5, H6, H7⟩
  isplitl [H1 H2]
  · isplitl [H1]; · iexact H1
    iexact H2
  isplitl [H3]; · iexact H3
  isplitl [H4]; · iexact H4
  isplitl [H5]; · iexact H5
  isplitl [H6]; · iexact H6
  iapply rows_dealt; iexact H7

/-! ## The launch's dealing -/

/-- A device's cells: a thing for each. -/
abbrev each (A : GSem nD τ sig → sProp 𝕄) (c : Dev nD) : sProp 𝕄 := bigSep Finset.univ fun k : Fin 38 => A (cell c k.val)

/-- What a device is dealt at first, -/
def G (c : Dev nD) : sProp 𝕄 :=
  iprop(each (fun g => roundState ER (sched X W) g 0) c ∗ each (fun g => atPos ER g 0 ∅ 0) c ∗ each (fun g => reached ER g 0) c ∗ minted c)

/-- what is the same for all, -/
def common : sProp 𝕄 :=
  iprop((bigSep Finset.univ fun p : Dev nD × Fin 38 => cellInv ER (sched X W) (K p) (cell p.1 p.2.val))
    ∗ bigSep Finset.univ fun p : Dev nD × Fin 38 => reached ER (cell p.1 p.2.val) 0)

instance common_persistent : BI.Persistent (common X W K) := by unfold common; infer_instance

/-- and what it holds when the duties are dealt and the cells' invariants stand. -/
def G' (c : Dev nD) : sProp 𝕄 := iprop(∃ K, common X W K ∗ each (fun g => atPos ER g 0 ∅ 0) c ∗ dealt c)

theorem fund : BI.own (ER (initOf cells toks)) ⊢ (|==> bigSep Finset.univ (G X W) : sProp 𝕄) := by
  have hX (A : GSem nD τ sig → sProp 𝕄) : bigSep cells A = bigSep Finset.univ fun c : Dev nD => each A c := by
    unfold cells; rw [bigSep_map, bigSep_univ_prod]; rfl
  have hT : bigSep toks (fun x => (dutyTok ER x.1 x.2.1 x.2.2 : sProp 𝕄)) = bigSep Finset.univ fun c : Dev nD => minted c := by
    unfold toks; rw [bigSep_map, bigSep_univ_prod]
    exact bigSep_congr fun c _ => minted_eq c
  iintro H
  imod (Rounds.fund ER (sched X W) cells toks) $$ H with ⟨H1, H2, H3, H4⟩
  imodintro
  ihave H1 := (Entails.of_eq (hX fun g => roundState ER (sched X W) g 0)) $$ H1
  ihave H2 := (Entails.of_eq (hX fun g => reached ER g 0)) $$ H2
  ihave H3 := (Entails.of_eq (hX fun g => atPos ER g 0 ∅ 0)) $$ H3
  ihave H4 := (Entails.of_eq hT) $$ H4
  unfold G; rw [bigSep_sep', bigSep_sep', bigSep_sep']
  isplitl [H1]; · iexact H1
  isplitl [H3]; · iexact H3
  isplitl [H2]; · iexact H2
  iexact H4

/-- One device's cells become invariants. -/
theorem alloc (c : Dev nD) :
    iprop(Pipeline.ownSems0 (Ix := ℕ) (Name := ℕ) (U := UU) (Lvl := ℕ) (Val := Elt F) (τ := τ) osem c ∗ unscopedSems0 c ∗ G X W c)
      ⊢ |={Set.univ}=> iprop((bigSep Finset.univ fun k : Fin 38 => iprop(∃ κ : ℕ, cellInv ER (sched X W) κ (cell c k.val)))
          ∗ each (fun g => atPos ER g 0 ∅ 0) c ∗ each (fun g => reached ER g 0) c ∗ minted c) := by
  have key : iprop((bigSep Finset.univ fun k : Fin 38 => semVal (cell c k.val) 0) ∗ each (fun g => roundState ER (sched X W) g 0) c)
      ⊢ (|={Set.univ}=> bigSep Finset.univ fun k : Fin 38 => iprop(∃ κ : ℕ, cellInv ER (sched X W) κ (cell c k.val)) : sProp 𝕄) := by
    rw [← bigSep_sep']
    exact (bigSep_mono fun k _ => (Rounds.body_intro ER (sched X W) (cell c k.val)).trans inv_alloc).trans (bigSep_fupd _ _)
  unfold G
  iintro ⟨Ho, Hu, H1, H⟩
  ihave Hv := (Entails.of_eq (sems_all c)) $$ [Ho Hu]
  · isplitl [Ho]; · iexact Ho
    iexact Hu
  imod key $$ [Hv H1] with HI
  · isplitl [Hv]; · iexact Hv
    iexact H1
  imodintro
  isplitl [HI]; · iexact HI
  iexact H

/-- What all share goes to each. -/
theorem to_each {I : Type} [DecidableEq I] {S : Finset I} {R : sProp 𝕄} [BI.Persistent R] {A B : I → sProp 𝕄} (h : ∀ i ∈ S, iprop(R ∗ A i) ⊢ B i) :
    iprop(R ∗ bigSep S A) ⊢ bigSep S B :=
  (sep_mono_left (BI.bigSep_of_persistent S R)).trans ((Entails.of_eq (bigSep_sep' S (fun _ => R) A).symm).trans (bigSep_mono h))

theorem regroup : (bigSep Finset.univ fun c => iprop((bigSep Finset.univ fun k : Fin 38 => iprop(∃ κ : ℕ, cellInv ER (sched X W) κ (cell c k.val)))
      ∗ each (fun g => atPos ER g 0 ∅ 0) c ∗ each (fun g => reached ER g 0) c ∗ minted c) : sProp 𝕄)
    ⊢ bigSep Finset.univ (G' X W) := by
  rw [bigSep_sep', bigSep_sep', bigSep_sep', ← bigSep_univ_prod (fun p : Dev nD × Fin 38 => iprop(∃ κ : ℕ, cellInv ER (sched X W) κ (cell p.1 p.2.val))),
    ← bigSep_univ_prod (fun p : Dev nD × Fin 38 => (reached ER (cell p.1 p.2.val) 0 : sProp 𝕄))]
  iintro ⟨HI, Hp, #HR, Ht⟩
  ihave HK := (BI.bigSep_exists_pi Finset.univ (fun (p : Dev nD × Fin 38) (κ : ℕ) => (cellInv ER (sched X W) κ (cell p.1 p.2.val) : sProp 𝕄))) $$ HI
  icases HK with ⟨%K, #HI⟩
  ihave Ht := (deal (F := F)) $$ Ht
  iapply (to_each (R := common X W K) (A := fun c => iprop(each (fun g => atPos ER g 0 ∅ 0) c ∗ dealt c)) fun c _ => show _ ⊢ G' X W c from by
    unfold G'; exact exists_intro (Φ := fun K => iprop(common X W K ∗ each (fun g => atPos ER g 0 ∅ 0) c ∗ dealt c)) K)
  isplitr
  · unfold common; isplitl; · iexact HI
    iexact HR
  · rw [bigSep_sep']
    isplitl [Hp]; · iexact Hp
    iexact Ht

theorem glob : (bigSep Finset.univ fun c => iprop(Pipeline.ownSems0 (Ix := ℕ) (Name := ℕ) (U := UU) (Lvl := ℕ) (Val := Elt F) (τ := τ) osem c ∗ unscopedSems0 c ∗ G X W c) : sProp 𝕄)
    ⊢ |={Set.univ}=> bigSep Finset.univ (G' X W) :=
  ((bigSep_mono fun c _ => alloc X W c).trans (bigSep_fupd _ _)).trans (Idealize.SL.BI.fupd_mono (regroup X W))

end Grant

end Cert.KernelIdeal.RS

end
-- ==== Proof.Device.lean ====
/-
  A device's run, from what the launch gives it to what the launch asks back.
-/
module

public import proofs.«01_k».proof.Proof.Body
public import proofs.«01_k».proof.Proof.Grant
public import Idealize.ShloMosaic.Lib.Rounds.Family
public import Idealize.SL.BI.BigOpNat

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig ℕ (Elt F) ℕ UU ℕ

section Device

variable (X : Dev nD → Vec F S4096x256 .f32) (W : Dev nD → Vec F S256x8192 .f32) (K : Dev nD × Fin 38 → ℕ) {α : Type}

/-! ## The start and the end of a device's run -/

/-- What a device starts with, once what it is dealt and its credits are put together. -/
theorem start_of (c : Dev nD) :
    iprop(each (fun g => atPos ER g 0 ∅ 0) c ∗ dealt c ∗ Pipeline.launchCred owed₀ c) ⊢ (startRes c : sProp 𝕄) := by
  have e : (upTo (rowPend (F := F) c) 0 16) = iprop(upTo (fun j => atPos ER (cell c (22 + j)) 0 ∅ 0) 0 16 ∗ upTo (rowCred c) 0 16) := upTo_two _ _ _ _
  iintro ⟨Hp, Hd, Hc⟩
  ihave Hp := (Entails.of_eq (places (F := F) fun n => atPos ER (cell c n) 0 ∅ 0)) $$ Hp
  icases Hp with ⟨P0, P1, P2, P3, P4, P5, P6, P7, P22⟩
  unfold dealt
  icases Hd with ⟨⟨T1, T2⟩, T3, T4, T5, T6, T7⟩
  ihave Hc := (creds c) $$ Hc
  icases Hc with ⟨C1, C2, C3, C4⟩
  unfold startRes
  isplitl [C1]; · iexact C1
  isplitl [P2]; · iexact P2
  isplitl [T1]; · iexact T1
  isplitl [T2]; · iexact T2
  isplitl [P5]; · iexact P5
  isplitl [P6]; · iexact P6
  isplitl [P3]; · iexact P3
  isplitl [P4]; · iexact P4
  isplitl [P0]; · iexact P0
  isplitl [P1]; · iexact P1
  isplitl [T3]; · iexact T3
  isplitl [T4]; · iexact T4
  isplitl [T5]; · iexact T5
  isplitl [C2]; · iexact C2
  isplitl [C3]; · iexact C3
  isplitl [T7]; · iexact T7
  isplitl [T6]; · iexact T6
  isplitl [P7]; · iexact P7
  iapply (Entails.of_eq e.symm)
  isplitl [P22]; · iexact P22
  iexact C4

/-- The places a device ends at are past the last rounds. -/
theorem end_places (c : Dev nD) : endRes c ⊢ (bigSep Finset.univ fun k : Fin 38 => atPos ER (cell c k.val) (roundsOf c k.val) ∅ 0 : sProp 𝕄) := by
  rw [places (F := F) fun n => atPos ER (cell c n) (roundsOf c n) ∅ 0]
  have h : (upTo (fun i => atPos ER (cell c (7 + i)) 1 ∅ 0) 0 15 : sProp 𝕄) = upTo (fun i => atPos ER (cell c (7 + i)) (roundsOf c (7 + i)) ∅ 0) 0 15 :=
    bigSep_congr fun i hi => by
      have := Finset.mem_Ico.1 hi
      unfold roundsOf
      rw [if_neg (by omega), if_neg (by omega), if_neg (by omega), if_neg (by omega), if_pos (by omega)]
  unfold endRes
  rw [h]
  iintro ⟨P2, P6, P5, P4, P3, P1, P0, P7, P22⟩
  isplitl [P0]; · iexact P0
  isplitl [P1]; · iexact P1
  isplitl [P2]; · iexact P2
  isplitl [P3]; · iexact P3
  isplitl [P4]; · iexact P4
  isplitl [P5]; · iexact P5
  isplitl [P6]; · iexact P6
  isplitl [P7]; · iexact P7
  iexact P22

/-- So its cells close, every counter at zero. -/
theorem end_close (c : Dev nD) : iprop(recs X W K ∗ endRes c)
    ⊢ |={Set.univ}=> iprop(Pipeline.ownSems0 (Ix := ℕ) (Name := ℕ) (U := UU) (Lvl := ℕ) (Val := Elt F) (τ := τ) osem c ∗ unscopedSems0 c) := by
  rw [sems_all]
  have h1 : iprop(recs X W K ∗ bigSep Finset.univ fun k : Fin 38 => atPos ER (cell c k.val) (roundsOf c k.val) ∅ 0)
      ⊢ bigSep Finset.univ fun k : Fin 38 => iprop(cellInv ER (sched X W) (K (c, k)) (cell c k.val) ∗ atPos ER (cell c k.val) (roundsOf c k.val) ∅ 0) :=
    to_each fun k _ => sep_mono_left (recs_inv X W K c k.isLt)
  exact (sep_mono_right (end_places c)).trans (h1.trans
    (Rounds.cells_close ER (sched X W) Finset.univ (fun k : Fin 38 => cell c k.val) (fun k => K (c, k)) (fun _ _ => Set.mem_univ _)
      (fun _ _ h => h) (fun k => roundsOf c k.val) fun k _ => duties_done X W c k.isLt))

/-- The scratch buffers, whole at some contents. -/
abbrev held (c : Dev nD) : sProp 𝕄 :=
  iprop((∃ f : Buf (Elt F) ((c : Thread nD τ).loc cc0_scratch0), ((c : Thread nD τ).loc cc0_scratch0) ↦{fullShare} f)
    ∗ (∃ f : Buf (Elt F) ((c : Thread nD τ).loc cc0_scratch1), ((c : Thread nD τ).loc cc0_scratch1) ↦{fullShare} f)
    ∗ (∃ f : Buf (Elt F) ((c : Thread nD τ).loc cc0_scratch2), ((c : Thread nD τ).loc cc0_scratch2) ↦{fullShare} f))

theorem mem_of (c : Dev nD) : held c ⊢ (startMem c : sProp 𝕄) := by
  unfold startMem
  iintro ⟨⟨%f0, H0⟩, ⟨%f1, H1⟩, ⟨%f2, H2⟩⟩
  ihave H0 := (Entails.of_eq (owns_whole (c : Thread nD τ) cc0_scratch0 fullShare f0).symm) $$ H0
  ihave H1 := (Entails.of_eq (owns_whole (c : Thread nD τ) cc0_scratch1 fullShare f1).symm) $$ H1
  ihave H2 := (Entails.of_eq (owns_whole (c : Thread nD τ) cc0_scratch2 fullShare f2).symm) $$ H2
  ihave H0 := (slots_split recvM c f0) $$ H0
  ihave H1 := (slots_split sendM c f1) $$ H1
  ihave H2 := (rows_split c f2) $$ H2
  icases H0 with ⟨A0, A1⟩
  icases H1 with ⟨B0, B1⟩
  icases H2 with ⟨C0, C1⟩
  isplitl [A0]; · iexact A0
  isplitl [A1]; · iexact A1
  isplitl [B0]; · iexact B0
  isplitl [B1]; · iexact B1
  isplitl [C0]; · iexact C0
  iexact C1

theorem held_of (c : Dev nD) : endMem X W c ⊢ (held c : sProp 𝕄) := by
  unfold endMem
  iintro ⟨A0, A1, B0, B1, H2⟩
  ihave H0 := (slots_join recvM c) $$ [A0 A1]
  · isplitl [A0]; · iexact A0
    iexact A1
  ihave H1 := (slots_join sendM c) $$ [B0 B1]
  · isplitl [B0]; · iexact B0
    iexact B1
  icases H0 with ⟨%f0, H0⟩
  icases H1 with ⟨%f1, H1⟩
  ihave H0 := (Entails.of_eq (owns_whole (c : Thread nD τ) cc0_scratch0 fullShare f0)) $$ H0
  ihave H1 := (Entails.of_eq (owns_whole (c : Thread nD τ) cc0_scratch1 fullShare f1)) $$ H1
  ihave H2 := (Entails.of_eq (owns_whole (c : Thread nD τ) cc0_scratch2 fullShare (peaks X W))) $$ H2
  isplitl [H0]
  · iexists f0; iexact H0
  isplitl [H1]
  · iexists f1; iexact H1
  iexists (peaks X W); iexact H2

/-- A device's run: from what it is dealt to its buffers whole and its counters at zero. -/
theorem sound (c : Dev nD) (y : Vec F S256x8192 .f32) (Q : sProp 𝕄) :
    iprop(recs X W K ∗ owing c (owed₀ c) ∗ xAt c (X c) ∗ wAt c (W c) ∗ outAt c y ∗ startRes c ∗ held c)
      ⊢ iprop((owing c 0 ∗ xAt c (X c) ∗ wAt c (W c) ∗ outAt c (result X W c)
          ∗ Pipeline.ownSems0 (Ix := ℕ) (Name := ℕ) (U := UU) (Lvl := ℕ) (Val := Elt F) (τ := τ) osem c ∗ unscopedSems0 c ∗ held c -∗ Q)
        -∗ run c (bodyAt0 (F := F) t0_0) fun _ => Q) := by
  iintro ⟨#HR, HO, Hx, Hw, Hy, Hs, Hm⟩ Hk
  iapply (wp_fupd (p := bodyAt0 (F := F) t0_0) (Q := fun _ => Q))
  ihave Hm := (mem_of c) $$ Hm
  iapply (sound_body X W K c y fun _ => iprop(|={Set.univ}=> Q)) $$ [HO Hx Hw Hy Hs Hm]
  · isplitr; · iexact HR
    isplitl [HO]; · iexact HO
    isplitl [Hx]; · iexact Hx
    isplitl [Hw]; · iexact Hw
    isplitl [Hy]; · iexact Hy
    isplitl [Hs]; · iexact Hs
    iexact Hm
  iintro ⟨HO, Hx, Hw, Hy, Hs, Hm⟩
  imod (end_close X W K c) $$ [Hs] with ⟨H1, H2⟩
  · isplitr; · iexact HR
    iexact Hs
  imodintro
  ihave Hm := (held_of X W c) $$ Hm
  iapply Hk
  isplitl [HO]; · iexact HO
  isplitl [Hx]; · iexact Hx
  isplitl [Hw]; · iexact Hw
  isplitl [Hy]; · iexact Hy
  isplitl [H1]; · iexact H1
  isplitl [H2]; · iexact H2
  iexact Hm

end Device

end Cert.KernelIdeal.RS

end
-- ==== Proof.Launch.lean ====
/-
  The launch: the region's data, its body's obligation, and the run of the whole program.
-/
module

public import proofs.«01_k».proof.Proof.Device
public import proofs.«01_k».proof.Proof.Gen.KernelIdeal.Frame
public import Idealize.SL.BI.BigOpNat
public import Idealize.ShloMosaic.Lib.Pipeline.CollectiveSegs

@[expose] public section

set_option maxRecDepth 16384

noncomputable section

namespace Cert.KernelIdeal.RS

open Cert.KernelIdeal Cert.KernelIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation)

variable {F : FTy → Type} [FloatOps F]

local notation "𝕄" => MT nD τ sig ℕ (Elt F) ℕ UU ℕ

section Launch

variable (m : (ℓ : Loc nD τ sig) → Buf (Elt F) ℓ) (ρ : Dev nD → PrngReg)

/-- The devices' blocks of the two arguments. -/
def xin (c : Dev nD) : Vec F S4096x256 .f32 := (win0_0.blk (0 : Fin 1)).view.read (Elt F) (m ((c : Thread nD τ).loc main_arg0))
def win (c : Dev nD) : Vec F S256x8192 .f32 := (win0_1.blk (0 : Fin 1)).view.read (Elt F) (m ((c : Thread nD τ).loc main_arg1))

/-- The state at the start. -/
abbrev s₀ : MemSt nD τ sig (Elt F) := ⟨m, fun _ => 0, ρ⟩

def start (c : Dev nD) : sProp 𝕄 := iprop((∃ K, recs (xin m) (win m) K) ∗ startRes c)

def Φ₀ (c : Dev nD) : sProp 𝕄 := iprop(start m c ∗ held c)
def Φ₁ (c : Dev nD) : sProp 𝕄 :=
  iprop(Pipeline.ownSems0 (Ix := ℕ) (Name := ℕ) (U := UU) (Lvl := ℕ) (Val := Elt F) (τ := τ) osem c ∗ unscopedSems0 c ∗ held c)

/-- The region's data: the arrays as launched, each staged block after the body, what is held and owed before and after. -/
def dats (_ : Fin 1) (c : Dev nD) : Dat τ (Elt F) ℕ ℕ UU ℕ cfg0 c where
  A w := (s₀ m ρ).mem ((cfg0.win w).arr.view.loc (c : Thread nD τ))
  after w _ := match w with
    | ⟨0, _⟩ => xin m c
    | ⟨1, _⟩ => win m c
    | ⟨2, _⟩ => result (xin m) (win m) c
  Φ t := match t with
    | ⟨0, _⟩ => Φ₀ m c
    | ⟨_ + 1, _⟩ => Φ₁ c
  q _ := fullShare
  owed t := match t with
    | ⟨0, _⟩ => owed₀ c
    | ⟨_ + 1, _⟩ => 0

theorem bigSep_W (A : Fin cfg0.W → sProp 𝕄) : bigSep Finset.univ A = iprop(A (0 : Fin 3) ∗ A (1 : Fin 3) ∗ A (2 : Fin 3)) := bigSep_W0 A

def pre (c : Dev nD) : sProp 𝕄 :=
  iprop(Φ₀ m c ∗ (dats m ρ 0 c).owesAt 0 t0_0.castSucc
    ∗ (∃ d, xAt c ((dats m ρ 0 c).before (0 : Fin 3) t0_0 d))
    ∗ (∃ d, wAt c ((dats m ρ 0 c).before (1 : Fin 3) t0_0 d))
    ∗ (∃ d, outAt c ((dats m ρ 0 c).before (2 : Fin 3) t0_0 d)))

def post (c : Dev nD) : sProp 𝕄 :=
  iprop(Φ₁ c ∗ (dats m ρ 0 c).owesAt 0 t0_0.succ ∗ xAt c (xin m c) ∗ wAt c (win m c) ∗ outAt c (result (xin m) (win m) c))

theorem before_x (c : Dev nD) (d) : (dats m ρ 0 c).before (0 : Fin 3) t0_0 d = xin m c := by
  unfold Dat.before; rw [if_pos (fetch0_0 t0_0)]; rfl
theorem before_w (c : Dev nD) (d) : (dats m ρ 0 c).before (1 : Fin 3) t0_0 d = win m c := by
  unfold Dat.before; rw [if_pos (fetch0_1 t0_0)]; rfl

theorem owing_of (c : Dev nD) (t : Fin (cfg0.N + 1)) : (dats m ρ 0 c).owesAt 0 t ⊢ owing c ((dats m ρ 0 c).owed t) := by
  unfold Dat.owesAt Pipeline.owesWithin owing
  iintro ⟨%w, %hw, H⟩
  iexists w; iexact H
theorem of_owing (c : Dev nD) (t : Fin (cfg0.N + 1)) : owing c ((dats m ρ 0 c).owed t) ⊢ (dats m ρ 0 c).owesAt 0 t := by
  unfold Dat.owesAt Pipeline.owesWithin owing
  iintro ⟨%w, H⟩
  iexists w
  isplitr
  · ipureintro; exact fun _ _ => Or.inl trivial
  iexact H

theorem sound_pre (c : Dev nD) : pre m ρ c ⊢ run c (bodyAt0 (F := F) t0_0) fun _ => post m ρ c := by
  unfold pre Φ₀ start
  iintro ⟨⟨⟨⟨%K, #HR⟩, Hs⟩, Hm⟩, HO, ⟨%d0, Hx⟩, ⟨%d1, Hw⟩, ⟨%d2, Hy⟩⟩
  ihave HO := (show (dats m ρ 0 c).owesAt 0 t0_0.castSucc ⊢ owing c (owed₀ c) from owing_of m ρ c t0_0.castSucc) $$ HO
  ihave Hx := (Entails.of_eq (congrArg (xAt c) (before_x m ρ c d0))) $$ Hx
  ihave Hw := (Entails.of_eq (congrArg (wAt c) (before_w m ρ c d1))) $$ Hw
  iapply (sound (xin m) (win m) K c ((dats m ρ 0 c).before (2 : Fin 3) t0_0 d2) (post m ρ c)) $$ [HO Hx Hw Hy Hs Hm]
  · isplitr; · iexact HR
    isplitl [HO]; · iexact HO
    isplitl [Hx]; · iexact Hx
    isplitl [Hw]; · iexact Hw
    isplitl [Hy]; · iexact Hy
    isplitl [Hs]; · iexact Hs
    iexact Hm
  iintro ⟨HO, Hx, Hw, Hy, H1, H2, Hm⟩
  ihave HO := (show owing c 0 ⊢ (dats m ρ 0 c).owesAt 0 t0_0.succ from of_owing m ρ c t0_0.succ) $$ HO
  unfold post Φ₁
  isplitl [H1 H2 Hm]
  · isplitl [H1]; · iexact H1
    isplitl [H2]; · iexact H2
    iexact Hm
  isplitl [HO]; · iexact HO
  isplitl [Hx]; · iexact Hx
  isplitl [Hw]; · iexact Hw
  iexact Hy

theorem body_obligation (c : Dev nD) : BodyObligation (dats m ρ 0 c) (defs₀ (F := F)) Variants.none 0 Set.univ := fun t => by
  rw [fin_N0 t, bigSep_W, bigSep_W]
  exact sound_pre m ρ c

/-! ## The launch -/

theorem ownSemFacts : Pipeline.OwnSemFacts cfg0.spec osem := by decide +kernel

theorem share_eq (c : Dev nD) (w : Fin cfg0.W) : (dats m ρ 0 c).share w = fullShare := by unfold Dat.share; split <;> rfl

def u₀ : UU := (initOf (Pipeline.cells cfgs cellOf_inj) (Pipeline.launchToks cfgs cellOf_inj), initOf cells toks)

theorem start_intro (c : Dev nD) :
    iprop(Pipeline.unscopedRestP Pipeline.Prefetch.none cfg0.spec c (fun b => m ((c : Thread nD τ).loc b)) ∗ levAts idx lev
        ∗ Pipeline.launchCred owed₀ c ∗ prngReg c (ρ c) ∗ G' (xin m) (win m) c)
      ⊢ |={Set.univ}=> iprop(start m c ∗ emp) := by
  unfold G'
  iintro ⟨-, #HL, HC, -, ⟨%K, #HI, Hp, Hd⟩⟩
  imodintro
  isplitl
  · unfold start
    isplitr
    · iexists K; unfold recs common
      icases HI with ⟨#H1, #H2⟩
      isplitr; · iexact H1
      isplitr; · iexact H2
      iexact HL
    iapply (start_of c)
    isplitl [Hp]; · iexact Hp
    isplitl [Hd]; · iexact Hd
    iexact HC
  · iempintro

theorem phi_in (c : Dev nD) :
    iprop(start m c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m c from rfl, scopedRest0_eq]
  unfold Φ₀
  iintro ⟨Hs, -, Hm⟩
  isplitl [Hs]; · iexact Hs
  iexact Hm

theorem phi_out (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ c from rfl, scopedRest0_eq]
  unfold Φ₁
  iintro ⟨H1, H2, Hm⟩
  isplitl [H2]; · iexact H2
  isplitl [H1]; · iexact H1
  iexact Hm

theorem lev_staging (c : Dev nD) (w : Fin 3) (s : Fin ((cfg0.win w).nbuf)) : lev ((c : Thread nD τ), .dma ((cfg0.win w).sem s)) 0 = 0 := by
  have h : ∀ (w : Fin 3) (s : Fin ((spec0 w).nbuf)), lev (((0 : Dev nD) : Thread nD τ), .dma ((spec0 w).sem s)) 0 = 0 := by decide +kernel
  exact h w s

theorem waits (c : Dev nD) : (levAts idx lev : sProp 𝕄) ⊢ Pipeline.cellsWaits cfgs (dats m ρ) 0 0 c :=
  Pipeline.cellsWaits_intro cfgs (dats m ρ) 0 0 c fun w s t => by
    refine mayWait_of c _ (by decide) _ fun g u hg => ?_
    rcases t with ⟨_ | _, ht⟩
    · obtain ⟨h1, h2⟩ := owed₀_pos hg
      exact ⟨h1, by rw [show lev ((c : Thread nD τ), _) 0 = 0 from lev_staging c w s]; exact h2⟩
    · exact absurd hg (lt_irrefl 0)

/-- The arrays at the end. -/
def finalA (c : Dev nD) (w : Fin cfg0.W) : Buf (Elt F) ((cfg0.win w).arr.view.loc (c : Thread nD τ)) := (dats m ρ 0 c).arrAt w cfg0.N

set_option maxRecDepth 8000 in
/-- From any memory with every counter at zero, on all devices: every execution ends, with each device's arrays at those contents and
    every counter at zero. -/
theorem run_main : θ_run defs (onTc (τ := τ) (main (F := F))) (s₀ m ρ)
    (fun r => (∀ (c : Dev nD) (w : Fin cfg0.W), r.2.mem ((cfg0.win w).arr.view.loc (c : Thread nD τ)) = finalA m ρ c w) ∧ r.2.sem = fun _ => 0) :=
  Pipeline.θ_run_region_owing_glob_pf (fun p => (cfgs p).toPCfg) (fun p => (cfgs p).toPCfg_adm) (dats m ρ) 0 cellOf_inj (0 : Fin 1)
    winFacts0.to₀ ownSemFacts (Pipeline.PreFacts.none _) EP defs₀ Variants.none m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owed₀) (howed₀ := fun _ => rfl) (howedN := fun _ => rfl)
    (L := idx) (lv := lev) (hL := idx_of_ne) (hwaits := waits m ρ)
    (G := G (xin m) (win m)) (G' := G' (xin m) (win m)) (u₀ := u₀)
    (hu₀ := by
      unfold u₀
      iintro Hu
      ihave H := (ownU_pair _ _) $$ Hu
      icases H with ⟨HP, HX⟩
      imod (fund (xin m) (win m)) $$ HX with HG
      imodintro
      isplitl [HP] <;> iassumption)
    (hglob := glob (xin m) (win m))
    (hA := fun _ _ => rfl) (hpf := fun _ k => k.elim0)
    (X := start m) (Y := fun c => unscopedSems0 c) (Z := fun _ => iprop(emp))
    (hX := start_intro m ρ) (hin := phi_in m ρ) (hout := phi_out m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments are as they were. -/
theorem finalA_x (c : Dev nD) : finalA m ρ c (0 : Fin 3) = m ((c : Thread nD τ).loc main_arg0) := (dats m ρ 0 c).arrAt_in (0 : Fin 3) rfl _
theorem finalA_w (c : Dev nD) : finalA m ρ c (1 : Fin 3) = m ((c : Thread nD τ).loc main_arg1) := (dats m ρ 0 c).arrAt_in (1 : Fin 3) rfl _

end Launch

end Cert.KernelIdeal.RS

end
-- ==== Proof.Frames.lean ====
/-
  The frames: the kernel's from its run, over the words and over the extended reals, and the reference's from its own.
-/
module

public import proofs.«01_k».proof.Defs
public import proofs.«01_k».proof.Proof.Launch
public import proofs.«01_k».proof.Proof.Gen.Kernel
public import proofs.«01_k».proof.Proof.Gen.ReferenceIdeal.Run
public import Idealize.ShloMosaic.Adequacy

@[expose] public section

noncomputable section

namespace Cert.Proof

open Idealize.ShloMosaic Idealize.ShloMosaic.TcCoe Idealize.SL.Sem
open Cert.KernelIdeal.RS (run_main finalA_x finalA_w)

/-- The kernel and its reading over the extended reals are one text: the same bodies, and so the same programs. -/
theorem bodies_eq : @Cert.Kernel.defs₀ Bits _ _ = @Cert.KernelIdeal.defs₀ Bits _ _ := by
  unfold Cert.Kernel.defs₀ Cert.KernelIdeal.defs₀
  refine congrArg Defs.onTc (funext fun l => funext fun a => ?_)
  match l, a with
  | 0, (t, s) => rfl

theorem defs_eq : @Cert.Kernel.defs Bits _ _ = @Cert.KernelIdeal.defs Bits _ _ := by
  unfold Cert.Kernel.defs Cert.KernelIdeal.defs
  exact congrArg (Pipeline.defs _) bodies_eq

/-- The kernel ends, its arguments as they were and every counter at zero; -/
theorem frame_kernel : Cert.quiescent_Kernel := fun m ρ _ => by
  rw [defs_eq]
  exact (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Bits) m ρ)

/-- so does its reading over the extended reals; -/
theorem frame_ideal : Cert.quiescent_KernelIdeal := fun m ρ _ =>
  (θ_run Cert.KernelIdeal.defs _ _).mono
    (fun _ h => ⟨fun c => ⟨(h.1 c (0 : Fin 3)).trans (finalA_x m ρ c), (h.1 c (1 : Fin 3)).trans (finalA_w m ρ c)⟩, h.2⟩)
    (run_main (F := Ideal) m ρ)

/-- and the reference. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

end Cert.Proof

end
-- ==== Proof.Dots.lean ====
/-
  What one block computes, over the extended reals: a device's product for a block of rows, what has been summed for the
  block when it is sent on at a step, and the block a device ends with.
-/
module

public import proofs.«01_k».proof.Proof.Ring
public import Idealize.ShloMosaic.PureOps.Ideal
public import Idealize.ShloMosaic.Lib.MatmulPlain
public import Idealize.ShloMosaic.Lib.ValueIdx
public import Idealize.ShloMosaic.Lib.ValueIdxCoords
public import Idealize.ShloMosaic.Lib.ValueLayout

@[expose] public section

noncomputable section

namespace Cert.KernelIdeal.RS

open Cert.KernelIdeal Cert.KernelIdeal.Gen
open Idealize.ShloMosaic Idealize.ShloMosaic.ValueIdx
open scoped BigOperators

variable (X : Dev nD → Vec Ideal S4096x256 .f32) (W : Dev nD → Vec Ideal S256x8192 .f32)

/-- Row `r` of block `b`, in the whole. -/
def row (b : Dev nD) (r : Fin 256) : Fin 4096 :=
  ⟨b.val * 256 + r.val, by have h : b.val < 16 := b.isLt; have := r.isLt; omega⟩

theorem rows_apply (b : Dev nD) (x : Vec Ideal S4096x256 .f32) (r k : Fin 256) : rows b x (ix2 r k) = x (ix2 (row b r) k) := by
  unfold rows
  refine congrArg x (Shape.idx_ext₂ ?_ ?_)
  · rw [Rect.emb_apply]; show b.val * 256 + 1 * r.val = b.val * 256 + r.val; omega
  · rw [Rect.emb_apply]; show 0 + 1 * k.val = k.val; omega

/-- Device `d`'s contribution to entry `(r, j)` of block `b`. -/
def part (d b : Dev nD) (r : Fin 256) (j : Fin 8192) : EReal := ∑ k : Fin 256, X d (ix2 (row b r) k) * W d (ix2 k j)

/-- A block of rows times a device's weights, at an entry. -/
theorem dot_apply (x : Vec Ideal S256x256 .f32) (w : Vec Ideal S256x8192 .f32) (r : Fin 256) (j : Fin 8192) :
    k0_pay29 x w (ix2 r j) = ∑ k : Fin 256, x (ix2 r k) * w (ix2 k j) := by
  unfold k0_pay29
  simp only [shapeCast_self]
  refine (Ideal.matmul_plain_apply none x w (constant S256x8192 .f32 0x00000000#32) r j).trans ?_
  rw [constant_apply, Ideal.ofBits_zero_f32, zero_add]

theorem dot_part (d b : Dev nD) (r : Fin 256) (j : Fin 8192) :
    k0_pay29 (rows b (X d)) (W d) (ix2 r j) = part X W d b r j := by
  rw [dot_apply]; unfold part
  exact Finset.sum_congr rfl fun k _ => by rw [rows_apply]

/-- The first thing sent is the product, -/
theorem first_apply (x : Vec Ideal S256x256 .f32) (w : Vec Ideal S256x8192 .f32) (u : Fin 1) (r : Fin 256) (j : Fin 8192) :
    k0_pay1 x w (ix3 u r j) = k0_pay29 x w (ix2 r j) := by
  unfold k0_pay1
  exact shapeCast_ab_1ab_apply (k0_pay29 x w) shapeCasts_S256x8192_S1x256x8192 u r j

/-- and each later one adds the product to what came. -/
theorem next_apply (x : Vec Ideal S256x256 .f32) (w : Vec Ideal S256x8192 .f32) (p : Vec Ideal S1x256x8192 .f32)
    (u : Fin 1) (r : Fin 256) (j : Fin 8192) :
    k0_pay5 x w p (ix3 u r j) = p (ix3 (0 : Fin 1) r j) + k0_pay29 x w (ix2 r j) := by
  unfold k0_pay5
  refine (shapeCast_ab_1ab_apply _ shapeCasts_S256x8192_S1x256x8192 u r j).trans ?_
  rw [addf_apply, shapeCast_1ab_ab_apply]
  rfl

/-- What is sent at step `s` is the sum over the last `s + 1` devices up to the sender, for the block that travels. -/
theorem carry_apply (s : ℕ) : s ≤ 14 → ∀ (c : Dev nD) (u : Fin 1) (r : Fin 256) (j : Fin 8192),
    carry X W s c (ix3 u r j) = ∑ t ∈ Finset.range (s + 1), part X W (hop c (15 * t)) (hop c (15 - s)) r j := by
  induction s with
  | zero =>
    intro _ c u r j
    show k0_pay1 _ _ _ = _
    rw [first_apply, dot_part, Finset.sum_range_one, Nat.mul_zero, hop_zero]
  | succ s ih =>
    intro hs c u r j
    show k0_pay5 _ _ _ _ = _
    rw [next_apply, dot_part, ih (by omega), Finset.sum_range_succ' _ (s + 1), Nat.mul_zero, hop_zero]
    refine congrArg (· + _) (Finset.sum_congr rfl fun t _ => ?_)
    rw [hop_hop, hop_hop, hop_of_mod c (a := 15 + (15 - s)) (b := 15 - (s + 1)) (by omega), hop_of_mod c (a := 15 + 15 * t) (b := 15 * (t + 1)) (by omega)]

/-- Sixteen steps back reach every device once. -/
theorem sum_back {M : Type*} [AddCommMonoid M] (c : Dev nD) (f : Dev nD → M) : ∑ t ∈ Finset.range 16, f (hop c (15 * t)) = ∑ d, f d := by
  refine Finset.sum_nbij (fun t => hop c (15 * t)) (fun _ _ => Finset.mem_univ _) ?_ ?_ fun _ _ => rfl
  · intro a ha b hb h
    have h := congrArg Fin.val h
    simp only [hop_val] at h
    have ha : a < 16 := Finset.mem_range.mp ha
    have hb : b < 16 := Finset.mem_range.mp hb
    omega
  · intro d _
    have hd : d.val < 16 := d.isLt
    have hc : c.val < 16 := c.isLt
    exact ⟨(c.val + 16 - d.val) % 16, Finset.mem_coe.mpr (Finset.mem_range.mpr (Nat.mod_lt _ (by decide))),
      Fin.ext (by simp only [hop_val]; omega)⟩

/-- The block a device ends with: the sum over all devices, clamped below at zero. -/
theorem total_apply (c : Dev nD) (r : Fin 256) (j : Fin 8192) : total X W c (ix2 r j) = max (∑ d, part X W d c r j) 0 := by
  unfold total k0_pay30
  rw [maximumf_apply, addf_apply, shapeCast_1ab_ab_apply, carry_apply X W 14 le_rfl, broadcast_apply]
  unfold lastDot
  rw [dot_part]
  refine congrArg₂ max ?_ Ideal.ofBits_zero_f32
  rw [← sum_back c fun d => part X W d c r j, Finset.sum_range_succ' _ 15, Nat.mul_zero, hop_zero]
  refine congrArg (· + _) (Finset.sum_congr rfl fun t _ => ?_)
  rw [hop_hop, hop_hop, hop_full c (n := 15 + (15 - 14)) rfl, hop_of_mod c (a := 15 + 15 * t) (b := 15 * (t + 1)) (by omega)]

end Cert.KernelIdeal.RS

end
-- ==== Proof.Quant.lean ====
/-
  Facts of the extended reals that the quantiser needs: rounding and dividing keep a number that is not negative so, a
  maximum over an array, and the constants.
-/
module

public import Idealize.ShloMosaic.PureOps.Ideal
public import Idealize.ShloMosaic.PureOps.Ideal.Laws
public import Idealize.ShloMosaic.PureOps.Reduce
public import Idealize.ShloMosaic.Lib.ValueIdx

@[expose] public section

noncomputable section

namespace Cert.KernelIdeal.RS

open Idealize.ShloMosaic

theorem word_neg_inf : Ideal.ofBits .f32 0xFF800000#32 = ⊥ := by simp [Ideal.ofBits, Ideal.ieee]
theorem word_neg_le : Ideal.ofBits .f32 0xC2FE0000#32 ≤ 0 := by
  have h : Ideal.ofBits .f32 0xC2FE0000#32 = ((-127 : ℝ) : EReal) := by
    simp [Ideal.ofBits, Ideal.ieee, -EReal.coe_mul]; norm_num
  rw [h]; exact_mod_cast (by norm_num : (-127 : ℝ) ≤ 0)
theorem word_127 : Ideal.ofBits .f32 0x42FE0000#32 = ((127 : ℝ) : EReal) := by
  simp [Ideal.ofBits, Ideal.ieee, -EReal.coe_mul]; norm_num
theorem word_guard_pos : 0 < Ideal.ofBits .f32 0x0DA24260#32 := by
  simp [Ideal.ofBits, Ideal.ieee, -EReal.coe_mul]

/-- A quotient of two numbers that are not negative, the divisor not zero, is not negative. -/
theorem div_nonneg' {x y : EReal} (hx : 0 ≤ x) (hy : 0 ≤ y) (h0 : y ≠ 0) : 0 ≤ Ideal.div x y := by
  unfold Ideal.div
  rw [if_neg h0]
  exact mul_nonneg hx (EReal.inv_nonneg_of_nonneg hy)

theorem half_even_nonneg {r : ℝ} (h : 0 ≤ r) : 0 ≤ Ideal.roundHalfEven r := by
  have hf : 0 ≤ ⌊r⌋ := Int.floor_nonneg.mpr h
  unfold Ideal.roundHalfEven
  dsimp only
  split
  · exact hf
  · split
    · omega
    · split <;> omega

/-- Rounding keeps a number that is not negative so. -/
theorem round_nonneg {x : EReal} (h : 0 ≤ x) : 0 ≤ Ideal.liftRound Ideal.roundHalfEven x := by
  induction x using EReal.rec with
  | bot => exact absurd h (by simp)
  | top => exact le_top
  | coe r =>
    rw [Ideal.liftRound_coe]
    exact_mod_cast half_even_nonneg (EReal.coe_nonneg.mp h)

/-- The quantised value of an entry at a scale, with the clipping's lower bound `lo`. -/
def code (lo s y : EReal) : EReal :=
  min (Ideal.ofBits .f32 0x42FE0000#32) (max lo (Ideal.liftRound Ideal.roundHalfEven (Ideal.div y s))) * s

/-- Of an entry that is not negative, any lower bound that is not positive gives the same. -/
theorem code_low {lo s y : EReal} (hlo : lo ≤ 0) (hs : 0 < s) (hy : 0 ≤ y) : code lo s y = code 0 s y := by
  unfold code
  have h := round_nonneg (div_nonneg' hy hs.le hs.ne')
  rw [max_eq_right h, max_eq_right (hlo.trans h)]

/-- The scale of a largest entry. -/
def scale (a : EReal) : EReal := Ideal.div (max a (Ideal.ofBits .f32 0x0DA24260#32)) (Ideal.ofBits .f32 0x42FE0000#32)

/-- It is positive, by the guard. -/
theorem scale_pos (a : EReal) : 0 < scale a := by
  unfold scale
  rw [word_127, Ideal.div_coe (by norm_num)]
  exact EReal.mul_pos (lt_max_of_lt_right word_guard_pos) (EReal.coe_pos.mpr (by norm_num))

end Cert.KernelIdeal.RS

end
-- ==== Proof.Peaks.lean ====
/-
  The largest entry: what a device tells the others, what it takes from them all, and the block it stores.
-/
module

public import proofs.«01_k».proof.Proof.Dots
public import proofs.«01_k».proof.Proof.Quant

@[expose] public section

noncomputable section

namespace Cert.KernelIdeal.RS

open Cert.KernelIdeal Cert.KernelIdeal.Gen
open Idealize.ShloMosaic Idealize.ShloMosaic.ValueIdx

variable (X : Dev nD → Vec Ideal S4096x256 .f32) (W : Dev nD → Vec Ideal S256x8192 .f32)

/-- A maximum over every axis is at most `a` when every entry is. -/
theorem reduce_max_le {s t : Shape} {axes : List (Fin s.rank)} (src : FVec Ideal s .f32) (h : s.Reduces axes t)
    (ht : ∀ b, t.size b = 1) (hφ : FKind.Formats .f32) (hacc : 0xFF800000#32 = FKind.maximumf.neutral .f32 hφ) (j : t.Idx) (a : EReal) :
    multiReduction .maximumf axes t src 0xFF800000#32 h hφ hacc j ≤ a ↔ ∀ i, src i ≤ a := by
  rw [multiReduction_maximumf_eq_fold, Finset.filter_true_of_mem fun i _ => funext fun b => Fin.ext (by
    have := (h.drop i b).isLt; have := (j b).isLt; have := ht b; omega)]
  refine (Finset.fold_max_le _).trans ⟨fun H i => H.2 i (Finset.mem_univ i), fun H => ⟨?_, fun i _ => H i⟩⟩
  rw [Ideal.ofBits_def, word_neg_inf]; exact bot_le

/-- The one entry read out of a cast array is an entry of the array. -/
theorem extract_cast {s t : Shape} {α : Type} (p : Fin t.rank → Nat) (v : s.Idx → α) (h : s.ShapeCasts t) (hp : ∀ a, p a < t.size a) :
    ∃ j, extractAt p (shapeCast t v h) hp = v j := ⟨_, rfl⟩

/-- What a device tells is at most `a` when its block is. -/
theorem peak_le (c : Dev nD) (i : S1x8x128.Idx) (a : EReal) :
    peak X W c i ≤ a ↔ ∀ (r : Fin 256) (j : Fin 8192), total X W c (ix2 r j) ≤ a := by
  unfold peak k0_pay31
  rw [shapeCast_self, broadcast_apply]
  obtain ⟨j, hj⟩ := extract_cast ![0, 0, 0] (multiReduction .maximumf [1, 2] S1
    (shapeCast S1x256x8192 (k0_pay30 (lastDot X W c) (carry X W 14 (prv c))) shapeCasts_S256x8192_S1x256x8192) 0xFF800000#32
    reduces_S1x256x8192_S1 (.inl rfl) rfl) shapeCasts_S1_S1x1x1 inpos_S1x1x1_p0_0_0
  rw [hj]
  refine (reduce_max_le _ _ (by decide) _ _ _ a).trans ⟨fun H r j => ?_, fun H i => ?_⟩
  · have h := H (ix3 (0 : Fin 1) r j)
    rwa [shapeCast_ab_1ab_apply] at h
  · rw [eq_ix3 i]
    exact (shapeCast_ab_1ab_apply _ shapeCasts_S256x8192_S1x256x8192 (i 0) (i 1) (i 2)).trans_le (H _ _)

/-- The largest of what all devices tell. -/
def top : EReal :=
  extractAt ![0, 0, 0, 0] (shapeCast S1x1x1x1 (multiReduction .maximumf [1, 2, 3] S1
    (shapeCast S1x16x8x128 (peaks X W) shapeCasts_S16x8x128_S1x16x8x128) 0xFF800000#32
    reduces_S1x16x8x128_S1 (.inl rfl) rfl) shapeCasts_S1_S1x1x1x1) inpos_S1x1x1x1_p0_0_0_0

theorem top_le (a : EReal) : top X W ≤ a ↔ ∀ (c : Dev nD) (r : Fin 256) (j : Fin 8192), total X W c (ix2 r j) ≤ a := by
  unfold top
  obtain ⟨j, hj⟩ := extract_cast ![0, 0, 0, 0] (multiReduction .maximumf [1, 2, 3] S1
    (shapeCast S1x16x8x128 (peaks X W) shapeCasts_S16x8x128_S1x16x8x128) 0xFF800000#32
    reduces_S1x16x8x128_S1 (.inl rfl) rfl) shapeCasts_S1_S1x1x1x1 inpos_S1x1x1x1_p0_0_0_0
  rw [hj]
  refine (reduce_max_le _ _ (by decide) _ _ _ a).trans ⟨fun H c => ?_, fun H i => ?_⟩
  · have h := H (ix4 (0 : Fin 1) c (0 : Fin 8) (0 : Fin 128))
    rw [shapeCast_abc_1abc_apply] at h
    exact (peak_le X W c _ a).mp h
  · rw [eq_ix4 i]
    exact (shapeCast_abc_1abc_apply _ shapeCasts_S16x8x128_S1x16x8x128 (i 0) (i 1) (i 2) (i 3)).trans_le ((peak_le X W _ _ a).mpr (H _))

theorem word_scalar (b : BitVec 32) : (Scalar.ofBits .f32 b : Ideal .f32) = Ideal.ofBits .f32 b := rfl

/-- The scale as the kernel's scalar unit computes it. -/
theorem scale_scalar (a : Ideal .f32) :
    Scalar.divf (Scalar.maximumf a (Scalar.ofBits .f32 0x0DA24260#32)) (Scalar.ofBits .f32 0x42FE0000#32) = scale a := by
  rw [Ideal.scalar_divf_def, Ideal.scalar_maximumf_def]
  rw [word_scalar, word_scalar]
  rfl

theorem scale_eq : k0_pay32 (peaks X W) = scale (top X W) := by
  unfold k0_pay32 top
  exact scale_scalar _

/-- An entry of what device `c` stores. -/
theorem result_apply (c : Dev nD) (i : S256x8192.Idx) : result X W c i = code 0 (scale (top X W)) (total X W c i) := by
  unfold result
  rw [scale_eq]
  unfold k0_pay33 code
  rw [shapeCast_self, ← Ideal.ofBits_zero_f32]
  rfl

end Cert.KernelIdeal.RS

end
-- ==== Proof.Refer.lean ====
/-
  What the reference computes, over the extended reals: an entry of the clamped product, its largest entry, and an entry of
  the quantised result.
-/
module

public import proofs.«01_k».proof.Proof.Quant
public import proofs.«01_k».proof.Proof.Gen.ReferenceIdeal
public import Idealize.ShloMosaic.Lib.StackMember
public import Idealize.ShloMosaic.Lib.IdealHost

@[expose] public section

noncomputable section

namespace Cert.ReferenceIdeal.Whole

open Cert.ReferenceIdeal Cert.ReferenceIdeal.Gen
open Cert.KernelIdeal.RS (code scale word_neg_inf)
open Idealize.ShloMosaic Idealize.ShloMosaic.ValueIdx
open scoped BigOperators

variable (x : FVec Ideal S4096x4096 .f32) (w : FVec Ideal S4096x8192 .f32)

/-- The product, clamped below at zero, -/
def clamped : FVec Ideal S4096x8192 .f32 :=
  maximumf (Host.dotGeneral dot_S4096x4096_S4096x8192_S4096x8192_1_0_0_1_n_n none x w)
    (broadcastInDim S4096x8192 ![] bcast_S_S4096x8192 (constant S_ .f32 0x00000000#32))
/-- its largest entry by size, -/
def largest : FVec Ideal S_ .f32 :=
  Host.reduce FloatOps.maximumf (Host.absf (clamped x w)) (constant S_ .f32 0xFF800000#32) reducesTo_S4096x8192_S_d0_1 h_S_
/-- the scale, -/
def step : FVec Ideal S_ .f32 :=
  Host.divf (maximumf (largest x w) (constant S_ .f32 0x0DA24260#32)) (constant S_ .f32 0x42FE0000#32)
/-- and the result. -/
def out : FVec Ideal S4096x8192 .f32 :=
  mulf (minimumf (broadcastInDim S4096x8192 ![] bcast_S_S4096x8192 (id (constant S_ .f32 0x42FE0000#32)))
    (maximumf (broadcastInDim S4096x8192 ![] bcast_S_S4096x8192 (id (constant S_ .f32 0xC2FE0000#32)))
      (Host.roundeven (Host.divf (clamped x w) (broadcastInDim S4096x8192 ![] bcast_S_S4096x8192 (step x w))))))
    (broadcastInDim S4096x8192 ![] bcast_S_S4096x8192 (step x w))

theorem clamped_apply (r : Fin 4096) (j : Fin 8192) : clamped x w (ix2 r j) = max (∑ k : Fin 4096, x (ix2 r k) * w (ix2 k j)) 0 := by
  unfold clamped
  rw [maximumf_apply]
  refine congrArg₂ max (StackMember.dotGeneral_plain_apply none x w r j) ?_
  rw [broadcastInDim_scalar_apply, constant_apply, Ideal.ofBits_zero_f32]

theorem clamped_nonneg (i : S4096x8192.Idx) : 0 ≤ clamped x w i := by
  rw [eq_ix2 i]
  exact (le_max_right _ _).trans_eq (clamped_apply x w (i 0) (i 1)).symm

theorem largest_le (j : S_.Idx) (a : EReal) : largest x w j ≤ a ↔ ∀ i, clamped x w i ≤ a := by
  unfold largest
  rw [Host.reduce_eq_fold, Finset.filter_true_of_mem fun i _ => funext fun b => b.elim0]
  refine (Finset.fold_max_le _).trans ⟨fun H i => ?_, fun H => ⟨?_, fun i _ => ?_⟩⟩
  · exact (le_max_left _ _).trans (H.2 i (Finset.mem_univ i))
  · rw [constant_apply, word_neg_inf]; exact bot_le
  · exact max_le (H i) ((EReal.neg_le_zero.mpr (clamped_nonneg x w i)).trans ((clamped_nonneg x w i).trans (H i)))

theorem step_apply (j : S_.Idx) : step x w j = scale (largest x w j) := by
  unfold step scale
  rw [hostDivf_apply, maximumf_apply, constant_apply, constant_apply]

theorem out_apply (i : S4096x8192.Idx) :
    out x w i = code (Ideal.ofBits .f32 0xC2FE0000#32) (scale (largest x w ix0)) (clamped x w i) := by
  unfold out
  rw [mulf_apply, minimumf_apply, maximumf_apply, broadcastInDim_scalar_apply, broadcastInDim_scalar_apply, broadcastInDim_scalar_apply]
  unfold code
  rw [← step_apply]
  show _ = min _ (max _ (Ideal.liftRound Ideal.roundHalfEven (Ideal.div (clamped x w i) (step x w ix0)))) * _
  rw [← broadcastInDim_scalar_apply bcast_S_S4096x8192 (step x w) i]
  rfl

end Cert.ReferenceIdeal.Whole

end
-- ==== Proof.Equation.lean ====
/-
  The equation: each device's result is its block of rows of the reference's.
-/
module

public import proofs.«01_k».proof.Proof.Peaks
public import proofs.«01_k».proof.Proof.Refer
public import Idealize.ShloMosaic.Lib.Layout

@[expose] public section

noncomputable section

namespace Cert.Equation

open Cert.KernelIdeal Cert.KernelIdeal.Gen Cert.KernelIdeal.RS
open Cert.ReferenceIdeal.Whole (clamped largest out)
open Idealize.ShloMosaic Idealize.ShloMosaic.ValueIdx
open scoped BigOperators

/-- A sum over the 4096 columns is the sum over the devices of the sums over their 256. -/
theorem sum_cut {M : Type*} [AddCommMonoid M] (f : Fin 4096 → M) : ∑ k, f k = ∑ d : Dev nD, ∑ k : Fin 256, f (row d k) := by
  rw [← Fintype.sum_prod_type' fun (d : Dev nD) (k : Fin 256) => f (row d k)]
  refine (Fintype.sum_equiv (finProdFinEquiv (m := 16) (n := 256)) _ _ fun p => congrArg f (Fin.ext ?_)).symm
  show p.1.val * 256 + p.2.val = p.2.val + 256 * p.1.val
  omega

/-- Every row is a row of some block. -/
theorem row_split (r : Fin 4096) : ∃ (c : Dev nD) (k : Fin 256), row c k = r :=
  ⟨⟨r.val / 256, by show _ < 16; omega⟩, ⟨r.val % 256, Nat.mod_lt _ (by decide)⟩, Fin.ext (by show r.val / 256 * 256 + r.val % 256 = r.val; omega)⟩

variable (X : Dev nD → Vec Ideal S4096x256 .f32) (W : Dev nD → Vec Ideal S256x8192 .f32)
variable (x : FVec Ideal ⟨2, ![4096, 4096]⟩ .f32) (w : FVec Ideal ⟨2, ![4096, 8192]⟩ .f32)

/-- The devices hold the columns of `x` and the rows of `w`. -/
structure Cut : Prop where
  hx : ∀ c, X c = Layout.block ⟨2, ![4096, 256]⟩ ⟨2, ![4096, 4096]⟩ 1 16 c x
  hw : ∀ c, W c = Layout.block ⟨2, ![256, 8192]⟩ ⟨2, ![4096, 8192]⟩ 0 16 c w

variable {X W x w} (h : Cut X W x w)
include h

/-- An entry of a device's columns of `x`. -/
theorem x_apply (d : Dev nD) (r : Fin 4096) (k : Fin 256) : X d (ix2 r k) = x (ix2 r (row d k)) := by
  rw [h.hx, Layout.block_apply]
  exact congrArg x (Shape.idx_ext₂ rfl rfl)

/-- An entry of a device's rows of `w`. -/
theorem w_apply (d : Dev nD) (k : Fin 256) (j : Fin 8192) : W d (ix2 k j) = w (ix2 (row d k) j) := by
  rw [h.hw, Layout.block_apply]
  exact congrArg w (Shape.idx_ext₂ rfl rfl)

/-- The block that a device ends with is its rows of the clamped product. -/
theorem total_eq (c : Dev nD) (r : Fin 256) (j : Fin 8192) : total X W c (ix2 r j) = clamped x w (ix2 (row c r) j) := by
  rw [total_apply, Cert.ReferenceIdeal.Whole.clamped_apply, sum_cut]
  refine congrArg (max · 0) (Finset.sum_congr rfl fun d _ => Finset.sum_congr rfl fun k _ => ?_)
  rw [x_apply h, w_apply h]

/-- The largest entries agree. -/
theorem top_eq : top X W = largest x w ix0 := by
  refine eq_of_forall_ge_iff fun a => (top_le X W a).trans (Iff.trans ?_ (Cert.ReferenceIdeal.Whole.largest_le x w ix0 a).symm)
  refine ⟨fun H i => ?_, fun H c r j => ?_⟩
  · obtain ⟨c, k, hk⟩ := row_split (i 0)
    rw [eq_ix2 i]
    have e := total_eq h c k (i 1)
    rw [hk] at e
    exact e.symm.trans_le (H c k (i 1))
  · rw [total_eq h]; exact H _

/-- So do the results, entry by entry. -/
theorem result_entry (c : Dev nD) (r : Fin 256) (j : Fin 8192) : result X W c (ix2 r j) = out x w (ix2 (row c r) j) := by
  rw [result_apply, Cert.ReferenceIdeal.Whole.out_apply,
    code_low word_neg_le (scale_pos _) (Cert.ReferenceIdeal.Whole.clamped_nonneg x w _), top_eq h, total_eq h]

/-- Each device's result is its block of rows of the reference's. -/
theorem result_eq (c : Dev nD) : result X W c = Layout.block ⟨2, ![256, 8192]⟩ ⟨2, ![4096, 8192]⟩ 0 16 c (out x w) := by
  funext i
  rw [Layout.block_apply, eq_ix2 i]
  exact (result_entry h c (i 0) (i 1)).trans (congrArg (out x w) (Shape.idx_ext₂ rfl rfl))

end Cert.Equation

end
-- ==== Proof.Final.lean ====
/-
  What the run leaves: each device's result array holds its block of the sum, quantised.
-/
module

public import proofs.«01_k».proof.Proof.Launch

@[expose] public section

noncomputable section

namespace Cert.KernelIdeal.RS

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- A window over a whole array reads the array. -/
theorem xin_eq (c : Dev nD) : xin m c = m ((c : Thread nD τ).loc main_arg0) :=
  Memref.read_access_unit_zero (Elt F) main_arg0 (funext fun a => by fin_cases a <;> decide) (fun a => by fin_cases a <;> decide) _
theorem win_eq (c : Dev nD) : win m c = m ((c : Thread nD τ).loc main_arg1) :=
  Memref.read_access_unit_zero (Elt F) main_arg1 (funext fun a => by fin_cases a <;> decide) (fun a => by fin_cases a <;> decide) _

/-- The result window's one block, read back after the run, is what the body stored. -/
theorem final_block (c : Dev nD) :
    (win0_2.blk (0 : Fin 1)).view.read (Elt F) (finalA m ρ c (2 : Fin 3)) = result (xin m) (win m) c := by
  unfold finalA
  rw [show cfg0.N = ((0 : Fin 1) : Fin cfg0.N).val + 1 from rfl, (dats m ρ 0 c).arrAt_succ (2 : Fin 3) (0 : Fin 1),
    if_pos (flush0_2 (0 : Fin 1))]
  exact View.read_write_univ _ _

/-- The result array. -/
theorem final_out (c : Dev nD) : finalA m ρ c (2 : Fin 3) = result (xin m) (win m) c :=
  (Memref.read_access_unit_zero (Elt F) main_v1 (funext fun a => by fin_cases a <;> decide) (fun a => by fin_cases a <;> decide)
    (finalA m ρ c (2 : Fin 3))).symm.trans (final_block m ρ c)

end Cert.KernelIdeal.RS

end
-- ==== Proof.Algebra.lean ====
/-
  The value claim: over the extended reals each device of the kernel ends with its rows of what the reference computes.
-/
module

public import proofs.«01_k».proof.Defs
public import proofs.«01_k».proof.Proof.Equation
public import proofs.«01_k».proof.Proof.Final
public import proofs.«01_k».proof.Proof.Gen.ReferenceIdeal.Run
public import Idealize.ShloMosaic.Adequacy

@[expose] public section

noncomputable section

namespace Cert.Proof

open Idealize.ShloMosaic Idealize.ShloMosaic.TcCoe Idealize.SL.Sem
open Cert.KernelIdeal.RS (run_main finalA_x finalA_w final_out xin_eq win_eq)

/-- The whole result is the reference's; the kernel's run leaves its blocks, the reference's run leaves it. -/
theorem algebraic : Cert.algebraic_KernelIdeal_ReferenceIdeal := fun m g m' g' _ hagree =>
  have hcut : Cert.Equation.Cut (Cert.KernelIdeal.RS.xin m) (Cert.KernelIdeal.RS.win m)
      (m' (((0 : Dev Cert.ReferenceIdeal.nD).tc : Thread _ Cert.ReferenceIdeal.τ).loc Cert.ReferenceIdeal.main_arg0))
      (m' (((0 : Dev Cert.ReferenceIdeal.nD).tc : Thread _ Cert.ReferenceIdeal.τ).loc Cert.ReferenceIdeal.main_arg1)) :=
    ⟨fun c => (xin_eq m c).trans (hagree c).1, fun c => (win_eq m c).trans (hagree c).2⟩
  ⟨Cert.ReferenceIdeal.Whole.out _ _,
    (θ_run Cert.KernelIdeal.defs _ _).mono
      (fun _ h c => ⟨((h.1 c (2 : Fin 3)).trans (final_out m g c)).trans (Cert.Equation.result_eq hcut c),
        (h.1 c (0 : Fin 3)).trans (finalA_x m g c), (h.1 c (1 : Fin 3)).trans (finalA_w m g c)⟩)
      (run_main (F := Ideal) m g),
    (θ_run Cert.ReferenceIdeal.defs _ _).mono (fun _ h => h 0) (Cert.ReferenceIdeal.Value.run (F := Ideal) m' g')⟩

end Cert.Proof

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import Idealize.ShloMosaic.Adequacy
public import Idealize.ShloMosaic.Init
public import proofs.«01_k».proof.Proof.Frames
public import proofs.«01_k».proof.Proof.Algebra

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  frame_kernel, frame_ideal, frame_reference, trivial, algebraic⟩

end Cert.Proof

end
